-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S76x2x768 Cert.KernelIdeal.S76x1x768
  ∧ IdealRules.bf16_pair.PackStatement Cert.KernelIdeal.S8x128
  ∧ IdealRules.bf16_pair.Statement Cert.KernelIdeal.S8x2x128 Cert.KernelIdeal.S8x1x128
  ∧ IdealRules.bf16_pair.PackStatement Cert.KernelIdeal.S4x128
  ∧ IdealRules.bf16_pair.Statement Cert.KernelIdeal.S4x2x128 Cert.KernelIdeal.S4x1x128
  ∧ IdealRules.bf16_pair.Statement Cert.KernelIdeal.S1x2x128 Cert.KernelIdeal.S1x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1x4864 : Shape := ⟨3, ![48, 1, 4864]⟩
abbrev S31488x2432 : Shape := ⟨2, ![31488, 2432]⟩
abbrev S31488x76 : Shape := ⟨2, ![31488, 76]⟩
abbrev S9348 : Shape := ⟨1, ![9348]⟩
abbrev S_ : Shape := ⟨0, ![]⟩
abbrev S48x4864 : Shape := ⟨2, ![48, 4864]⟩
abbrev S9600 : Shape := ⟨1, ![9600]⟩
abbrev S75x128 : Shape := ⟨2, ![75, 128]⟩
abbrev S76x31488 : Shape := ⟨2, ![76, 31488]⟩
abbrev S1 : Shape := ⟨1, ![1]⟩
abbrev S48x31488 : Shape := ⟨2, ![48, 31488]⟩
abbrev S768x2432 : Shape := ⟨2, ![768, 2432]⟩
abbrev S76x768 : Shape := ⟨2, ![76, 768]⟩
abbrev S48x768 : Shape := ⟨2, ![48, 768]⟩
abbrev S19x48x256 : Shape := ⟨3, ![19, 48, 256]⟩
abbrev S128x128 : Shape := ⟨2, ![128, 128]⟩
abbrev S48x128 : Shape := ⟨2, ![48, 128]⟩
abbrev S1x48x128 : Shape := ⟨3, ![1, 48, 128]⟩
abbrev S8x128 : Shape := ⟨2, ![8, 128]⟩
abbrev S32x128 : Shape := ⟨2, ![32, 128]⟩
abbrev S1x128 : Shape := ⟨2, ![1, 128]⟩
abbrev S8x128x1 : Shape := ⟨3, ![8, 128, 1]⟩
abbrev S4x128 : Shape := ⟨2, ![4, 128]⟩
abbrev S48x256 : Shape := ⟨2, ![48, 256]⟩
abbrev S16x128 : Shape := ⟨2, ![16, 128]⟩
abbrev S32x128x1 : Shape := ⟨3, ![32, 128, 1]⟩
abbrev S256x128 : Shape := ⟨2, ![256, 128]⟩
abbrev S256x256 : Shape := ⟨2, ![256, 256]⟩
abbrev S1x48x256 : Shape := ⟨3, ![1, 48, 256]⟩

abbrev nBuf : Space → Nat
  | .hbm => 13
  | .vmem => 11
  | .smem => 1
  | _ => 0

abbrev bufTy : (tb : Table) → Fin (tcTables nBuf tb) → BufTy
  | .hbm, ⟨0, _⟩ => ⟨S48x1x4864, .bf16⟩
  | .hbm, ⟨1, _⟩ => ⟨S31488x2432, .i8⟩
  | .hbm, ⟨2, _⟩ => ⟨S31488x76, .i8⟩
  | .hbm, ⟨3, _⟩ => ⟨S9348, .f32⟩
  | .hbm, ⟨4, _⟩ => ⟨S_, .f32⟩
  | .hbm, ⟨5, _⟩ => ⟨S48x4864, .bf16⟩
  | .hbm, ⟨6, _⟩ => ⟨S_, .i32⟩
  | .hbm, ⟨7, _⟩ => ⟨S_, .f32⟩
  | .hbm, ⟨8, _⟩ => ⟨S9600, .f32⟩
  | .hbm, ⟨9, _⟩ => ⟨S75x128, .f32⟩
  | .hbm, ⟨10, _⟩ => ⟨S76x31488, .i8⟩
  | .hbm, ⟨11, _⟩ => ⟨S1, .f32⟩
  | .hbm, ⟨12, _⟩ => ⟨S48x31488, .bf16⟩
  | .local _ .vmem, ⟨0, _⟩ => ⟨S48x4864, .bf16⟩
  | .local _ .vmem, ⟨1, _⟩ => ⟨S768x2432, .i8⟩
  | .local _ .vmem, ⟨2, _⟩ => ⟨S768x2432, .i8⟩
  | .local _ .vmem, ⟨3, _⟩ => ⟨S76x768, .i8⟩
  | .local _ .vmem, ⟨4, _⟩ => ⟨S76x768, .i8⟩
  | .local _ .vmem, ⟨5, _⟩ => ⟨S75x128, .f32⟩
  | .local _ .vmem, ⟨6, _⟩ => ⟨S48x768, .bf16⟩
  | .local _ .vmem, ⟨7, _⟩ => ⟨S48x768, .bf16⟩
  | .local _ .vmem, ⟨8, _⟩ => ⟨S19x48x256, .bf16⟩
  | .local _ .vmem, ⟨9, _⟩ => ⟨S76x768, .i32⟩
  | .local _ .vmem, ⟨10, _⟩ => ⟨S75x128, .f32⟩
  | .local _ .smem, ⟨0, _⟩ => ⟨S1, .f32⟩
  | _, _ => ⟨S48x1x4864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg4_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [BitOps F]

abbrev grid0 : Pipeline.Grid := ⟨1, ![41], ![false]⟩

def k0_off1 (i : grid0.Coords) (c0_i32_24 : BitVec 32) : Fin 2 → Nat :=
  let arg0 : BitVec 32 := BitVec.ofNat 32 (i 0).val
  let c6_i32 : BitVec 32 := 6#32
  let v96 : BitVec 32 := Scalar.muli arg0 c6_i32
  let v97 : BitVec 32 := Scalar.addi v96 c0_i32_24
  let c38_i32 : BitVec 32 := 38#32
  let v98 : BitVec 32 := Scalar.muli v97 c38_i32
  let c0_i32_25 : BitVec 32 := 0#32
  let v100 : BitVec 1 := Scalar.cmpi .sgt v98 c0_i32_25
  let v101 : BitVec 32 := Scalar.extui v100
  let c0_i32_26 : BitVec 32 := 0#32
  let v102 : BitVec 1 := Scalar.cmpi .slt v98 c0_i32_26
  let v103 : BitVec 32 := Scalar.extui v102
  let v104 : BitVec 32 := Scalar.subi v101 v103
  let c128_i32 : BitVec 32 := 128#32
  let c0_i32_27 : BitVec 32 := 0#32
  let v105 : BitVec 1 := Scalar.cmpi .sgt c128_i32 c0_i32_27
  let v106 : BitVec 32 := Scalar.extui v105
  let c0_i32_28 : BitVec 32 := 0#32
  let v107 : BitVec 1 := Scalar.cmpi .slt c128_i32 c0_i32_28
  let v108 : BitVec 32 := Scalar.extui v107
  let v109 : BitVec 32 := Scalar.subi v106 v108
  let v110 : BitVec 1 := Scalar.cmpi .ne v104 v109
  let v111 : BitVec 32 := Scalar.remsi v98 c128_i32
  let c0_i32_29 : BitVec 32 := 0#32
  let v112 : BitVec 1 := Scalar.cmpi .ne v111 c0_i32_29
  let v113 : BitVec 1 := Scalar.andi v110 v112
  let v99 : BitVec 32 := Scalar.divsi v98 c128_i32
  let c1_i32_30 : BitVec 32 := 1#32
  let v114 : BitVec 32 := Scalar.subi v99 c1_i32_30
  let v115 : BitVec 32 := Scalar.select v113 v114 v99
  let v126 : Index := Scalar.indexCast v115
  let c0_37 : Index := 0#32
  ![v126.toNat, 0]
def k0_off2 (i : grid0.Coords) (c0_i32_24 : BitVec 32) : Fin 2 → Nat :=
  let arg0 : BitVec 32 := BitVec.ofNat 32 (i 0).val
  let c6_i32 : BitVec 32 := 6#32
  let v96 : BitVec 32 := Scalar.muli arg0 c6_i32
  let v97 : BitVec 32 := Scalar.addi v96 c0_i32_24
  let c38_i32 : BitVec 32 := 38#32
  let v98 : BitVec 32 := Scalar.muli v97 c38_i32
  let c0_i32_25 : BitVec 32 := 0#32
  let v100 : BitVec 1 := Scalar.cmpi .sgt v98 c0_i32_25
  let v101 : BitVec 32 := Scalar.extui v100
  let c0_i32_26 : BitVec 32 := 0#32
  let v102 : BitVec 1 := Scalar.cmpi .slt v98 c0_i32_26
  let v103 : BitVec 32 := Scalar.extui v102
  let v104 : BitVec 32 := Scalar.subi v101 v103
  let c128_i32 : BitVec 32 := 128#32
  let c0_i32_27 : BitVec 32 := 0#32
  let v105 : BitVec 1 := Scalar.cmpi .sgt c128_i32 c0_i32_27
  let v106 : BitVec 32 := Scalar.extui v105
  let c0_i32_28 : BitVec 32 := 0#32
  let v107 : BitVec 1 := Scalar.cmpi .slt c128_i32 c0_i32_28
  let v108 : BitVec 32 := Scalar.extui v107
  let v109 : BitVec 32 := Scalar.subi v106 v108
  let v110 : BitVec 1 := Scalar.cmpi .ne v104 v109
  let v111 : BitVec 32 := Scalar.remsi v98 c128_i32
  let c0_i32_29 : BitVec 32 := 0#32
  let v112 : BitVec 1 := Scalar.cmpi .ne v111 c0_i32_29
  let v113 : BitVec 1 := Scalar.andi v110 v112
  let v99 : BitVec 32 := Scalar.divsi v98 c128_i32
  let c1_i32_30 : BitVec 32 := 1#32
  let v114 : BitVec 32 := Scalar.subi v99 c1_i32_30
  let v115 : BitVec 32 := Scalar.select v113 v114 v99
  let c1_i32_38 : BitVec 32 := 1#32
  let v130 : BitVec 32 := Scalar.addi v115 c1_i32_38
  let v131 : Index := Scalar.indexCast v130
  let c0_39 : Index := 0#32
  ![v131.toNat, 0]
@[reducible] def k0_t1_loop : Scf.Loop 32 :=
  let c0_i32_451 : BitVec 32 := 0#32
  let c3_i32_452 : BitVec 32 := 3#32
  let v1356 : BitVec 32 := Scalar.addi c0_i32_451 c3_i32_452
  let c1_i32_453 : BitVec 32 := 1#32
  ⟨c0_i32_451, v1356, c1_i32_453⟩
def k0_mult1 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_456 : BitVec 32 := 0#32
  let v1359 : BitVec 32 := Scalar.addi v1357 c0_i32_456
  v1359
def k0_off3 (k0_t1 : Fin k0_t1_loop.trips) (c0_i32_456 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1359 : BitVec 32 := Scalar.addi v1357 c0_i32_456
  let v1360 : BitVec 32 := v1359
  let v1361 : Index := Scalar.indexCast v1360
  let c0_457 : Index := 0#32
  ![v1361.toNat, 0]
def k0_off4 (k0_t1 : Fin k0_t1_loop.trips) (c0_i32_456 : BitVec 32) : Fin 2 → Nat :=
  let c0_458 : Index := 0#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1359 : BitVec 32 := Scalar.addi v1357 c0_i32_456
  let v1360 : BitVec 32 := v1359
  let v1364 : Index := Scalar.indexCast v1360
  ![0, v1364.toNat]
def k0_off5 (k0_t1 : Fin k0_t1_loop.trips) (c0_i32_456 : BitVec 32) : Fin 2 → Nat :=
  let c38 : Index := 38#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1359 : BitVec 32 := Scalar.addi v1357 c0_i32_456
  let v1360 : BitVec 32 := v1359
  let v1368 : Index := Scalar.indexCast v1360
  ![38, v1368.toNat]
def k0_off6 (k0_t1 : Fin k0_t1_loop.trips) (c0_i32_456 : BitVec 32) : Fin 2 → Nat :=
  let c1 : Index := 1#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1359 : BitVec 32 := Scalar.addi v1357 c0_i32_456
  let v1360 : BitVec 32 := v1359
  let v1500 : Index := Scalar.indexCast v1360
  ![1, v1500.toNat]
def k0_off7 (k0_t1 : Fin k0_t1_loop.trips) (c0_i32_456 : BitVec 32) : Fin 2 → Nat :=
  let c39 : Index := 39#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1359 : BitVec 32 := Scalar.addi v1357 c0_i32_456
  let v1360 : BitVec 32 := v1359
  let v1504 : Index := Scalar.indexCast v1360
  ![39, v1504.toNat]
def k0_mult2 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_501 : BitVec 32 := 128#32
  let v1637 : BitVec 32 := Scalar.addi v1357 c128_i32_501
  v1637
def k0_mult3 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_555 : BitVec 32 := 0#32
  let v1920 : BitVec 32 := Scalar.addi v1357 c0_i32_555
  v1920
def k0_off8 (k0_t1 : Fin k0_t1_loop.trips) (c0_i32_555 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1920 : BitVec 32 := Scalar.addi v1357 c0_i32_555
  let v1921 : BitVec 32 := v1920
  let v1922 : Index := Scalar.indexCast v1921
  let c128_556 : Index := 128#32
  ![v1922.toNat, 128]
def k0_off9 (k0_t1 : Fin k0_t1_loop.trips) (c0_i32_555 : BitVec 32) : Fin 2 → Nat :=
  let c2 : Index := 2#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1920 : BitVec 32 := Scalar.addi v1357 c0_i32_555
  let v1921 : BitVec 32 := v1920
  let v1925 : Index := Scalar.indexCast v1921
  ![2, v1925.toNat]
def k0_off10 (k0_t1 : Fin k0_t1_loop.trips) (c0_i32_555 : BitVec 32) : Fin 2 → Nat :=
  let c40_557 : Index := 40#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1920 : BitVec 32 := Scalar.addi v1357 c0_i32_555
  let v1921 : BitVec 32 := v1920
  let v1929 : Index := Scalar.indexCast v1921
  ![40, v1929.toNat]
def k0_off11 (k0_t1 : Fin k0_t1_loop.trips) (c0_i32_555 : BitVec 32) : Fin 2 → Nat :=
  let c3 : Index := 3#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1920 : BitVec 32 := Scalar.addi v1357 c0_i32_555
  let v1921 : BitVec 32 := v1920
  let v2061 : Index := Scalar.indexCast v1921
  ![3, v2061.toNat]
def k0_off12 (k0_t1 : Fin k0_t1_loop.trips) (c0_i32_555 : BitVec 32) : Fin 2 → Nat :=
  let c41 : Index := 41#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1920 : BitVec 32 := Scalar.addi v1357 c0_i32_555
  let v1921 : BitVec 32 := v1920
  let v2065 : Index := Scalar.indexCast v1921
  ![41, v2065.toNat]
def k0_mult4 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_602 : BitVec 32 := 128#32
  let v2198 : BitVec 32 := Scalar.addi v1357 c128_i32_602
  v2198
def k0_mult5 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_656 : BitVec 32 := 0#32
  let v2481 : BitVec 32 := Scalar.addi v1357 c0_i32_656
  v2481
def k0_off13 (k0_t1 : Fin k0_t1_loop.trips) (c0_i32_656 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v2481 : BitVec 32 := Scalar.addi v1357 c0_i32_656
  let v2482 : BitVec 32 := v2481
  let v2483 : Index := Scalar.indexCast v2482
  let c256_657 : Index := 256#32
  ![v2483.toNat, 256]
def k0_off14 (k0_t1 : Fin k0_t1_loop.trips) (c0_i32_656 : BitVec 32) : Fin 2 → Nat :=
  let c4 : Index := 4#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v2481 : BitVec 32 := Scalar.addi v1357 c0_i32_656
  let v2482 : BitVec 32 := v2481
  let v2486 : Index := Scalar.indexCast v2482
  ![4, v2486.toNat]
def k0_off15 (k0_t1 : Fin k0_t1_loop.trips) (c0_i32_656 : BitVec 32) : Fin 2 → Nat :=
  let c42 : Index := 42#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v2481 : BitVec 32 := Scalar.addi v1357 c0_i32_656
  let v2482 : BitVec 32 := v2481
  let v2490 : Index := Scalar.indexCast v2482
  ![42, v2490.toNat]
def k0_off16 (k0_t1 : Fin k0_t1_loop.trips) (c0_i32_656 : BitVec 32) : Fin 2 → Nat :=
  let c5 : Index := 5#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v2481 : BitVec 32 := Scalar.addi v1357 c0_i32_656
  let v2482 : BitVec 32 := v2481
  let v2622 : Index := Scalar.indexCast v2482
  ![5, v2622.toNat]
def k0_off17 (k0_t1 : Fin k0_t1_loop.trips) (c0_i32_656 : BitVec 32) : Fin 2 → Nat :=
  let c43 : Index := 43#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v2481 : BitVec 32 := Scalar.addi v1357 c0_i32_656
  let v2482 : BitVec 32 := v2481
  let v2626 : Index := Scalar.indexCast v2482
  ![43, v2626.toNat]
def k0_mult6 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_702 : BitVec 32 := 128#32
  let v2759 : BitVec 32 := Scalar.addi v1357 c128_i32_702
  v2759
def k0_mult7 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_756 : BitVec 32 := 0#32
  let v3042 : BitVec 32 := Scalar.addi v1357 c0_i32_756
  v3042
def k0_off18 (k0_t1 : Fin k0_t1_loop.trips) (c0_i32_756 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3042 : BitVec 32 := Scalar.addi v1357 c0_i32_756
  let v3043 : BitVec 32 := v3042
  let v3044 : Index := Scalar.indexCast v3043
  let c384_757 : Index := 384#32
  ![v3044.toNat, 384]
def k0_off19 (k0_t1 : Fin k0_t1_loop.trips) (c0_i32_756 : BitVec 32) : Fin 2 → Nat :=
  let c6 : Index := 6#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3042 : BitVec 32 := Scalar.addi v1357 c0_i32_756
  let v3043 : BitVec 32 := v3042
  let v3047 : Index := Scalar.indexCast v3043
  ![6, v3047.toNat]
def k0_off20 (k0_t1 : Fin k0_t1_loop.trips) (c0_i32_756 : BitVec 32) : Fin 2 → Nat :=
  let c44 : Index := 44#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3042 : BitVec 32 := Scalar.addi v1357 c0_i32_756
  let v3043 : BitVec 32 := v3042
  let v3051 : Index := Scalar.indexCast v3043
  ![44, v3051.toNat]
def k0_off21 (k0_t1 : Fin k0_t1_loop.trips) (c0_i32_756 : BitVec 32) : Fin 2 → Nat :=
  let c7 : Index := 7#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3042 : BitVec 32 := Scalar.addi v1357 c0_i32_756
  let v3043 : BitVec 32 := v3042
  let v3183 : Index := Scalar.indexCast v3043
  ![7, v3183.toNat]
def k0_off22 (k0_t1 : Fin k0_t1_loop.trips) (c0_i32_756 : BitVec 32) : Fin 2 → Nat :=
  let c45 : Index := 45#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3042 : BitVec 32 := Scalar.addi v1357 c0_i32_756
  let v3043 : BitVec 32 := v3042
  let v3187 : Index := Scalar.indexCast v3043
  ![45, v3187.toNat]
def k0_mult8 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_802 : BitVec 32 := 128#32
  let v3320 : BitVec 32 := Scalar.addi v1357 c128_i32_802
  v3320
def k0_mult9 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_856 : BitVec 32 := 0#32
  let v3603 : BitVec 32 := Scalar.addi v1357 c0_i32_856
  v3603
def k0_off23 (k0_t1 : Fin k0_t1_loop.trips) (c0_i32_856 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3603 : BitVec 32 := Scalar.addi v1357 c0_i32_856
  let v3604 : BitVec 32 := v3603
  let v3605 : Index := Scalar.indexCast v3604
  let c512_857 : Index := 512#32
  ![v3605.toNat, 512]
def k0_off24 (k0_t1 : Fin k0_t1_loop.trips) (c0_i32_856 : BitVec 32) : Fin 2 → Nat :=
  let c8_858 : Index := 8#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3603 : BitVec 32 := Scalar.addi v1357 c0_i32_856
  let v3604 : BitVec 32 := v3603
  let v3608 : Index := Scalar.indexCast v3604
  ![8, v3608.toNat]
def k0_off25 (k0_t1 : Fin k0_t1_loop.trips) (c0_i32_856 : BitVec 32) : Fin 2 → Nat :=
  let c46 : Index := 46#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3603 : BitVec 32 := Scalar.addi v1357 c0_i32_856
  let v3604 : BitVec 32 := v3603
  let v3612 : Index := Scalar.indexCast v3604
  ![46, v3612.toNat]
def k0_off26 (k0_t1 : Fin k0_t1_loop.trips) (c0_i32_856 : BitVec 32) : Fin 2 → Nat :=
  let c9 : Index := 9#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3603 : BitVec 32 := Scalar.addi v1357 c0_i32_856
  let v3604 : BitVec 32 := v3603
  let v3744 : Index := Scalar.indexCast v3604
  ![9, v3744.toNat]
def k0_off27 (k0_t1 : Fin k0_t1_loop.trips) (c0_i32_856 : BitVec 32) : Fin 2 → Nat :=
  let c47 : Index := 47#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3603 : BitVec 32 := Scalar.addi v1357 c0_i32_856
  let v3604 : BitVec 32 := v3603
  let v3748 : Index := Scalar.indexCast v3604
  ![47, v3748.toNat]
def k0_mult10 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_903 : BitVec 32 := 128#32
  let v3881 : BitVec 32 := Scalar.addi v1357 c128_i32_903
  v3881
def k0_mult11 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_957 : BitVec 32 := 0#32
  let v4164 : BitVec 32 := Scalar.addi v1357 c0_i32_957
  v4164
def k0_off28 (k0_t1 : Fin k0_t1_loop.trips) (c0_i32_957 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4164 : BitVec 32 := Scalar.addi v1357 c0_i32_957
  let v4165 : BitVec 32 := v4164
  let v4166 : Index := Scalar.indexCast v4165
  let c640_958 : Index := 640#32
  ![v4166.toNat, 640]
def k0_off29 (k0_t1 : Fin k0_t1_loop.trips) (c0_i32_957 : BitVec 32) : Fin 2 → Nat :=
  let c10 : Index := 10#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4164 : BitVec 32 := Scalar.addi v1357 c0_i32_957
  let v4165 : BitVec 32 := v4164
  let v4169 : Index := Scalar.indexCast v4165
  ![10, v4169.toNat]
def k0_off30 (k0_t1 : Fin k0_t1_loop.trips) (c0_i32_957 : BitVec 32) : Fin 2 → Nat :=
  let c48_959 : Index := 48#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4164 : BitVec 32 := Scalar.addi v1357 c0_i32_957
  let v4165 : BitVec 32 := v4164
  let v4173 : Index := Scalar.indexCast v4165
  ![48, v4173.toNat]
def k0_off31 (k0_t1 : Fin k0_t1_loop.trips) (c0_i32_957 : BitVec 32) : Fin 2 → Nat :=
  let c11 : Index := 11#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4164 : BitVec 32 := Scalar.addi v1357 c0_i32_957
  let v4165 : BitVec 32 := v4164
  let v4305 : Index := Scalar.indexCast v4165
  ![11, v4305.toNat]
def k0_off32 (k0_t1 : Fin k0_t1_loop.trips) (c0_i32_957 : BitVec 32) : Fin 2 → Nat :=
  let c49 : Index := 49#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4164 : BitVec 32 := Scalar.addi v1357 c0_i32_957
  let v4165 : BitVec 32 := v4164
  let v4309 : Index := Scalar.indexCast v4165
  ![49, v4309.toNat]
def k0_mult12 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1004 : BitVec 32 := 128#32
  let v4442 : BitVec 32 := Scalar.addi v1357 c128_i32_1004
  v4442
def k0_mult13 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1058 : BitVec 32 := 0#32
  let v4725 : BitVec 32 := Scalar.addi v1357 c0_i32_1058
  v4725
def k0_off33 (k0_t1 : Fin k0_t1_loop.trips) (c0_i32_1058 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4725 : BitVec 32 := Scalar.addi v1357 c0_i32_1058
  let v4726 : BitVec 32 := v4725
  let v4727 : Index := Scalar.indexCast v4726
  let c768 : Index := 768#32
  ![v4727.toNat, 768]
def k0_off34 (k0_t1 : Fin k0_t1_loop.trips) (c0_i32_1058 : BitVec 32) : Fin 2 → Nat :=
  let c12 : Index := 12#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4725 : BitVec 32 := Scalar.addi v1357 c0_i32_1058
  let v4726 : BitVec 32 := v4725
  let v4730 : Index := Scalar.indexCast v4726
  ![12, v4730.toNat]
def k0_off35 (k0_t1 : Fin k0_t1_loop.trips) (c0_i32_1058 : BitVec 32) : Fin 2 → Nat :=
  let c50 : Index := 50#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4725 : BitVec 32 := Scalar.addi v1357 c0_i32_1058
  let v4726 : BitVec 32 := v4725
  let v4734 : Index := Scalar.indexCast v4726
  ![50, v4734.toNat]
def k0_off36 (k0_t1 : Fin k0_t1_loop.trips) (c0_i32_1058 : BitVec 32) : Fin 2 → Nat :=
  let c13 : Index := 13#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4725 : BitVec 32 := Scalar.addi v1357 c0_i32_1058
  let v4726 : BitVec 32 := v4725
  let v4866 : Index := Scalar.indexCast v4726
  ![13, v4866.toNat]
def k0_off37 (k0_t1 : Fin k0_t1_loop.trips) (c0_i32_1058 : BitVec 32) : Fin 2 → Nat :=
  let c51 : Index := 51#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4725 : BitVec 32 := Scalar.addi v1357 c0_i32_1058
  let v4726 : BitVec 32 := v4725
  let v4870 : Index := Scalar.indexCast v4726
  ![51, v4870.toNat]
def k0_mult14 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1103 : BitVec 32 := 128#32
  let v5003 : BitVec 32 := Scalar.addi v1357 c128_i32_1103
  v5003
def k0_mult15 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1157 : BitVec 32 := 0#32
  let v5286 : BitVec 32 := Scalar.addi v1357 c0_i32_1157
  v5286
def k0_off38 (k0_t1 : Fin k0_t1_loop.trips) (c0_i32_1157 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5286 : BitVec 32 := Scalar.addi v1357 c0_i32_1157
  let v5287 : BitVec 32 := v5286
  let v5288 : Index := Scalar.indexCast v5287
  let c896 : Index := 896#32
  ![v5288.toNat, 896]
def k0_off39 (k0_t1 : Fin k0_t1_loop.trips) (c0_i32_1157 : BitVec 32) : Fin 2 → Nat :=
  let c14 : Index := 14#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5286 : BitVec 32 := Scalar.addi v1357 c0_i32_1157
  let v5287 : BitVec 32 := v5286
  let v5291 : Index := Scalar.indexCast v5287
  ![14, v5291.toNat]
def k0_off40 (k0_t1 : Fin k0_t1_loop.trips) (c0_i32_1157 : BitVec 32) : Fin 2 → Nat :=
  let c52 : Index := 52#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5286 : BitVec 32 := Scalar.addi v1357 c0_i32_1157
  let v5287 : BitVec 32 := v5286
  let v5295 : Index := Scalar.indexCast v5287
  ![52, v5295.toNat]
def k0_off41 (k0_t1 : Fin k0_t1_loop.trips) (c0_i32_1157 : BitVec 32) : Fin 2 → Nat :=
  let c15 : Index := 15#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5286 : BitVec 32 := Scalar.addi v1357 c0_i32_1157
  let v5287 : BitVec 32 := v5286
  let v5427 : Index := Scalar.indexCast v5287
  ![15, v5427.toNat]
def k0_off42 (k0_t1 : Fin k0_t1_loop.trips) (c0_i32_1157 : BitVec 32) : Fin 2 → Nat :=
  let c53 : Index := 53#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5286 : BitVec 32 := Scalar.addi v1357 c0_i32_1157
  let v5287 : BitVec 32 := v5286
  let v5431 : Index := Scalar.indexCast v5287
  ![53, v5431.toNat]
def k0_mult16 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1202 : BitVec 32 := 128#32
  let v5564 : BitVec 32 := Scalar.addi v1357 c128_i32_1202
  v5564
def k0_mult17 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1256 : BitVec 32 := 0#32
  let v5847 : BitVec 32 := Scalar.addi v1357 c0_i32_1256
  v5847
def k0_off43 (k0_t1 : Fin k0_t1_loop.trips) (c0_i32_1256 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5847 : BitVec 32 := Scalar.addi v1357 c0_i32_1256
  let v5848 : BitVec 32 := v5847
  let v5849 : Index := Scalar.indexCast v5848
  let c1024 : Index := 1024#32
  ![v5849.toNat, 1024]
def k0_off44 (k0_t1 : Fin k0_t1_loop.trips) (c0_i32_1256 : BitVec 32) : Fin 2 → Nat :=
  let c16_1257 : Index := 16#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5847 : BitVec 32 := Scalar.addi v1357 c0_i32_1256
  let v5848 : BitVec 32 := v5847
  let v5852 : Index := Scalar.indexCast v5848
  ![16, v5852.toNat]
def k0_off45 (k0_t1 : Fin k0_t1_loop.trips) (c0_i32_1256 : BitVec 32) : Fin 2 → Nat :=
  let c54 : Index := 54#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5847 : BitVec 32 := Scalar.addi v1357 c0_i32_1256
  let v5848 : BitVec 32 := v5847
  let v5856 : Index := Scalar.indexCast v5848
  ![54, v5856.toNat]
def k0_off46 (k0_t1 : Fin k0_t1_loop.trips) (c0_i32_1256 : BitVec 32) : Fin 2 → Nat :=
  let c17 : Index := 17#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5847 : BitVec 32 := Scalar.addi v1357 c0_i32_1256
  let v5848 : BitVec 32 := v5847
  let v5988 : Index := Scalar.indexCast v5848
  ![17, v5988.toNat]
def k0_off47 (k0_t1 : Fin k0_t1_loop.trips) (c0_i32_1256 : BitVec 32) : Fin 2 → Nat :=
  let c55 : Index := 55#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5847 : BitVec 32 := Scalar.addi v1357 c0_i32_1256
  let v5848 : BitVec 32 := v5847
  let v5992 : Index := Scalar.indexCast v5848
  ![55, v5992.toNat]
def k0_mult18 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1302 : BitVec 32 := 128#32
  let v6125 : BitVec 32 := Scalar.addi v1357 c128_i32_1302
  v6125
def k0_mult19 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1356 : BitVec 32 := 0#32
  let v6408 : BitVec 32 := Scalar.addi v1357 c0_i32_1356
  v6408
def k0_off48 (k0_t1 : Fin k0_t1_loop.trips) (c0_i32_1356 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6408 : BitVec 32 := Scalar.addi v1357 c0_i32_1356
  let v6409 : BitVec 32 := v6408
  let v6410 : Index := Scalar.indexCast v6409
  let c1152 : Index := 1152#32
  ![v6410.toNat, 1152]
def k0_off49 (k0_t1 : Fin k0_t1_loop.trips) (c0_i32_1356 : BitVec 32) : Fin 2 → Nat :=
  let c18 : Index := 18#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6408 : BitVec 32 := Scalar.addi v1357 c0_i32_1356
  let v6409 : BitVec 32 := v6408
  let v6413 : Index := Scalar.indexCast v6409
  ![18, v6413.toNat]
def k0_off50 (k0_t1 : Fin k0_t1_loop.trips) (c0_i32_1356 : BitVec 32) : Fin 2 → Nat :=
  let c56_1357 : Index := 56#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6408 : BitVec 32 := Scalar.addi v1357 c0_i32_1356
  let v6409 : BitVec 32 := v6408
  let v6417 : Index := Scalar.indexCast v6409
  ![56, v6417.toNat]
def k0_off51 (k0_t1 : Fin k0_t1_loop.trips) (c0_i32_1356 : BitVec 32) : Fin 2 → Nat :=
  let c19 : Index := 19#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6408 : BitVec 32 := Scalar.addi v1357 c0_i32_1356
  let v6409 : BitVec 32 := v6408
  let v6549 : Index := Scalar.indexCast v6409
  ![19, v6549.toNat]
def k0_off52 (k0_t1 : Fin k0_t1_loop.trips) (c0_i32_1356 : BitVec 32) : Fin 2 → Nat :=
  let c57 : Index := 57#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6408 : BitVec 32 := Scalar.addi v1357 c0_i32_1356
  let v6409 : BitVec 32 := v6408
  let v6553 : Index := Scalar.indexCast v6409
  ![57, v6553.toNat]
def k0_mult20 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1402 : BitVec 32 := 128#32
  let v6686 : BitVec 32 := Scalar.addi v1357 c128_i32_1402
  v6686
def k0_mult21 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1456 : BitVec 32 := 0#32
  let v6969 : BitVec 32 := Scalar.addi v1357 c0_i32_1456
  v6969
def k0_off53 (k0_t1 : Fin k0_t1_loop.trips) (c0_i32_1456 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6969 : BitVec 32 := Scalar.addi v1357 c0_i32_1456
  let v6970 : BitVec 32 := v6969
  let v6971 : Index := Scalar.indexCast v6970
  let c1280 : Index := 1280#32
  ![v6971.toNat, 1280]
def k0_off54 (k0_t1 : Fin k0_t1_loop.trips) (c0_i32_1456 : BitVec 32) : Fin 2 → Nat :=
  let c20 : Index := 20#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6969 : BitVec 32 := Scalar.addi v1357 c0_i32_1456
  let v6970 : BitVec 32 := v6969
  let v6974 : Index := Scalar.indexCast v6970
  ![20, v6974.toNat]
def k0_off55 (k0_t1 : Fin k0_t1_loop.trips) (c0_i32_1456 : BitVec 32) : Fin 2 → Nat :=
  let c58 : Index := 58#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6969 : BitVec 32 := Scalar.addi v1357 c0_i32_1456
  let v6970 : BitVec 32 := v6969
  let v6978 : Index := Scalar.indexCast v6970
  ![58, v6978.toNat]
def k0_off56 (k0_t1 : Fin k0_t1_loop.trips) (c0_i32_1456 : BitVec 32) : Fin 2 → Nat :=
  let c21 : Index := 21#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6969 : BitVec 32 := Scalar.addi v1357 c0_i32_1456
  let v6970 : BitVec 32 := v6969
  let v7110 : Index := Scalar.indexCast v6970
  ![21, v7110.toNat]
def k0_off57 (k0_t1 : Fin k0_t1_loop.trips) (c0_i32_1456 : BitVec 32) : Fin 2 → Nat :=
  let c59 : Index := 59#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6969 : BitVec 32 := Scalar.addi v1357 c0_i32_1456
  let v6970 : BitVec 32 := v6969
  let v7114 : Index := Scalar.indexCast v6970
  ![59, v7114.toNat]
def k0_mult22 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1501 : BitVec 32 := 128#32
  let v7247 : BitVec 32 := Scalar.addi v1357 c128_i32_1501
  v7247
def k0_mult23 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1555 : BitVec 32 := 0#32
  let v7530 : BitVec 32 := Scalar.addi v1357 c0_i32_1555
  v7530
def k0_off58 (k0_t1 : Fin k0_t1_loop.trips) (c0_i32_1555 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v7530 : BitVec 32 := Scalar.addi v1357 c0_i32_1555
  let v7531 : BitVec 32 := v7530
  let v7532 : Index := Scalar.indexCast v7531
  let c1408 : Index := 1408#32
  ![v7532.toNat, 1408]
def k0_off59 (k0_t1 : Fin k0_t1_loop.trips) (c0_i32_1555 : BitVec 32) : Fin 2 → Nat :=
  let c22 : Index := 22#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v7530 : BitVec 32 := Scalar.addi v1357 c0_i32_1555
  let v7531 : BitVec 32 := v7530
  let v7535 : Index := Scalar.indexCast v7531
  ![22, v7535.toNat]
def k0_off60 (k0_t1 : Fin k0_t1_loop.trips) (c0_i32_1555 : BitVec 32) : Fin 2 → Nat :=
  let c60 : Index := 60#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v7530 : BitVec 32 := Scalar.addi v1357 c0_i32_1555
  let v7531 : BitVec 32 := v7530
  let v7539 : Index := Scalar.indexCast v7531
  ![60, v7539.toNat]
def k0_off61 (k0_t1 : Fin k0_t1_loop.trips) (c0_i32_1555 : BitVec 32) : Fin 2 → Nat :=
  let c23 : Index := 23#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v7530 : BitVec 32 := Scalar.addi v1357 c0_i32_1555
  let v7531 : BitVec 32 := v7530
  let v7671 : Index := Scalar.indexCast v7531
  ![23, v7671.toNat]
def k0_off62 (k0_t1 : Fin k0_t1_loop.trips) (c0_i32_1555 : BitVec 32) : Fin 2 → Nat :=
  let c61 : Index := 61#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v7530 : BitVec 32 := Scalar.addi v1357 c0_i32_1555
  let v7531 : BitVec 32 := v7530
  let v7675 : Index := Scalar.indexCast v7531
  ![61, v7675.toNat]
def k0_mult24 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1600 : BitVec 32 := 128#32
  let v7808 : BitVec 32 := Scalar.addi v1357 c128_i32_1600
  v7808
def k0_mult25 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1654 : BitVec 32 := 0#32
  let v8091 : BitVec 32 := Scalar.addi v1357 c0_i32_1654
  v8091
def k0_off63 (k0_t1 : Fin k0_t1_loop.trips) (c0_i32_1654 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8091 : BitVec 32 := Scalar.addi v1357 c0_i32_1654
  let v8092 : BitVec 32 := v8091
  let v8093 : Index := Scalar.indexCast v8092
  let c1536 : Index := 1536#32
  ![v8093.toNat, 1536]
def k0_off64 (k0_t1 : Fin k0_t1_loop.trips) (c0_i32_1654 : BitVec 32) : Fin 2 → Nat :=
  let c24_1655 : Index := 24#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8091 : BitVec 32 := Scalar.addi v1357 c0_i32_1654
  let v8092 : BitVec 32 := v8091
  let v8096 : Index := Scalar.indexCast v8092
  ![24, v8096.toNat]
def k0_off65 (k0_t1 : Fin k0_t1_loop.trips) (c0_i32_1654 : BitVec 32) : Fin 2 → Nat :=
  let c62 : Index := 62#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8091 : BitVec 32 := Scalar.addi v1357 c0_i32_1654
  let v8092 : BitVec 32 := v8091
  let v8100 : Index := Scalar.indexCast v8092
  ![62, v8100.toNat]
def k0_off66 (k0_t1 : Fin k0_t1_loop.trips) (c0_i32_1654 : BitVec 32) : Fin 2 → Nat :=
  let c25 : Index := 25#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8091 : BitVec 32 := Scalar.addi v1357 c0_i32_1654
  let v8092 : BitVec 32 := v8091
  let v8232 : Index := Scalar.indexCast v8092
  ![25, v8232.toNat]
def k0_off67 (k0_t1 : Fin k0_t1_loop.trips) (c0_i32_1654 : BitVec 32) : Fin 2 → Nat :=
  let c63 : Index := 63#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8091 : BitVec 32 := Scalar.addi v1357 c0_i32_1654
  let v8092 : BitVec 32 := v8091
  let v8236 : Index := Scalar.indexCast v8092
  ![63, v8236.toNat]
def k0_mult26 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1700 : BitVec 32 := 128#32
  let v8369 : BitVec 32 := Scalar.addi v1357 c128_i32_1700
  v8369
def k0_mult27 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1754 : BitVec 32 := 0#32
  let v8652 : BitVec 32 := Scalar.addi v1357 c0_i32_1754
  v8652
def k0_off68 (k0_t1 : Fin k0_t1_loop.trips) (c0_i32_1754 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8652 : BitVec 32 := Scalar.addi v1357 c0_i32_1754
  let v8653 : BitVec 32 := v8652
  let v8654 : Index := Scalar.indexCast v8653
  let c1664 : Index := 1664#32
  ![v8654.toNat, 1664]
def k0_off69 (k0_t1 : Fin k0_t1_loop.trips) (c0_i32_1754 : BitVec 32) : Fin 2 → Nat :=
  let c26 : Index := 26#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8652 : BitVec 32 := Scalar.addi v1357 c0_i32_1754
  let v8653 : BitVec 32 := v8652
  let v8657 : Index := Scalar.indexCast v8653
  ![26, v8657.toNat]
def k0_off70 (k0_t1 : Fin k0_t1_loop.trips) (c0_i32_1754 : BitVec 32) : Fin 2 → Nat :=
  let c64_1755 : Index := 64#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8652 : BitVec 32 := Scalar.addi v1357 c0_i32_1754
  let v8653 : BitVec 32 := v8652
  let v8661 : Index := Scalar.indexCast v8653
  ![64, v8661.toNat]
def k0_off71 (k0_t1 : Fin k0_t1_loop.trips) (c0_i32_1754 : BitVec 32) : Fin 2 → Nat :=
  let c27 : Index := 27#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8652 : BitVec 32 := Scalar.addi v1357 c0_i32_1754
  let v8653 : BitVec 32 := v8652
  let v8793 : Index := Scalar.indexCast v8653
  ![27, v8793.toNat]
def k0_off72 (k0_t1 : Fin k0_t1_loop.trips) (c0_i32_1754 : BitVec 32) : Fin 2 → Nat :=
  let c65 : Index := 65#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8652 : BitVec 32 := Scalar.addi v1357 c0_i32_1754
  let v8653 : BitVec 32 := v8652
  let v8797 : Index := Scalar.indexCast v8653
  ![65, v8797.toNat]
def k0_mult28 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1800 : BitVec 32 := 128#32
  let v8930 : BitVec 32 := Scalar.addi v1357 c128_i32_1800
  v8930
def k0_mult29 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1854 : BitVec 32 := 0#32
  let v9213 : BitVec 32 := Scalar.addi v1357 c0_i32_1854
  v9213
def k0_off73 (k0_t1 : Fin k0_t1_loop.trips) (c0_i32_1854 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9213 : BitVec 32 := Scalar.addi v1357 c0_i32_1854
  let v9214 : BitVec 32 := v9213
  let v9215 : Index := Scalar.indexCast v9214
  let c1792 : Index := 1792#32
  ![v9215.toNat, 1792]
def k0_off74 (k0_t1 : Fin k0_t1_loop.trips) (c0_i32_1854 : BitVec 32) : Fin 2 → Nat :=
  let c28 : Index := 28#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9213 : BitVec 32 := Scalar.addi v1357 c0_i32_1854
  let v9214 : BitVec 32 := v9213
  let v9218 : Index := Scalar.indexCast v9214
  ![28, v9218.toNat]
def k0_off75 (k0_t1 : Fin k0_t1_loop.trips) (c0_i32_1854 : BitVec 32) : Fin 2 → Nat :=
  let c66 : Index := 66#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9213 : BitVec 32 := Scalar.addi v1357 c0_i32_1854
  let v9214 : BitVec 32 := v9213
  let v9222 : Index := Scalar.indexCast v9214
  ![66, v9222.toNat]
def k0_off76 (k0_t1 : Fin k0_t1_loop.trips) (c0_i32_1854 : BitVec 32) : Fin 2 → Nat :=
  let c29 : Index := 29#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9213 : BitVec 32 := Scalar.addi v1357 c0_i32_1854
  let v9214 : BitVec 32 := v9213
  let v9354 : Index := Scalar.indexCast v9214
  ![29, v9354.toNat]
def k0_off77 (k0_t1 : Fin k0_t1_loop.trips) (c0_i32_1854 : BitVec 32) : Fin 2 → Nat :=
  let c67 : Index := 67#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9213 : BitVec 32 := Scalar.addi v1357 c0_i32_1854
  let v9214 : BitVec 32 := v9213
  let v9358 : Index := Scalar.indexCast v9214
  ![67, v9358.toNat]
def k0_mult30 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1899 : BitVec 32 := 128#32
  let v9491 : BitVec 32 := Scalar.addi v1357 c128_i32_1899
  v9491
def k0_mult31 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1953 : BitVec 32 := 0#32
  let v9774 : BitVec 32 := Scalar.addi v1357 c0_i32_1953
  v9774
def k0_off78 (k0_t1 : Fin k0_t1_loop.trips) (c0_i32_1953 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9774 : BitVec 32 := Scalar.addi v1357 c0_i32_1953
  let v9775 : BitVec 32 := v9774
  let v9776 : Index := Scalar.indexCast v9775
  let c1920 : Index := 1920#32
  ![v9776.toNat, 1920]
def k0_off79 (k0_t1 : Fin k0_t1_loop.trips) (c0_i32_1953 : BitVec 32) : Fin 2 → Nat :=
  let c30 : Index := 30#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9774 : BitVec 32 := Scalar.addi v1357 c0_i32_1953
  let v9775 : BitVec 32 := v9774
  let v9779 : Index := Scalar.indexCast v9775
  ![30, v9779.toNat]
def k0_off80 (k0_t1 : Fin k0_t1_loop.trips) (c0_i32_1953 : BitVec 32) : Fin 2 → Nat :=
  let c68 : Index := 68#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9774 : BitVec 32 := Scalar.addi v1357 c0_i32_1953
  let v9775 : BitVec 32 := v9774
  let v9783 : Index := Scalar.indexCast v9775
  ![68, v9783.toNat]
def k0_off81 (k0_t1 : Fin k0_t1_loop.trips) (c0_i32_1953 : BitVec 32) : Fin 2 → Nat :=
  let c31 : Index := 31#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9774 : BitVec 32 := Scalar.addi v1357 c0_i32_1953
  let v9775 : BitVec 32 := v9774
  let v9915 : Index := Scalar.indexCast v9775
  ![31, v9915.toNat]
def k0_off82 (k0_t1 : Fin k0_t1_loop.trips) (c0_i32_1953 : BitVec 32) : Fin 2 → Nat :=
  let c69 : Index := 69#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9774 : BitVec 32 := Scalar.addi v1357 c0_i32_1953
  let v9775 : BitVec 32 := v9774
  let v9919 : Index := Scalar.indexCast v9775
  ![69, v9919.toNat]
def k0_mult32 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1998 : BitVec 32 := 128#32
  let v10052 : BitVec 32 := Scalar.addi v1357 c128_i32_1998
  v10052
def k0_mult33 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_2052 : BitVec 32 := 0#32
  let v10335 : BitVec 32 := Scalar.addi v1357 c0_i32_2052
  v10335
def k0_off83 (k0_t1 : Fin k0_t1_loop.trips) (c0_i32_2052 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10335 : BitVec 32 := Scalar.addi v1357 c0_i32_2052
  let v10336 : BitVec 32 := v10335
  let v10337 : Index := Scalar.indexCast v10336
  let c2048 : Index := 2048#32
  ![v10337.toNat, 2048]
def k0_off84 (k0_t1 : Fin k0_t1_loop.trips) (c0_i32_2052 : BitVec 32) : Fin 2 → Nat :=
  let c32_2053 : Index := 32#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10335 : BitVec 32 := Scalar.addi v1357 c0_i32_2052
  let v10336 : BitVec 32 := v10335
  let v10340 : Index := Scalar.indexCast v10336
  ![32, v10340.toNat]
def k0_off85 (k0_t1 : Fin k0_t1_loop.trips) (c0_i32_2052 : BitVec 32) : Fin 2 → Nat :=
  let c70 : Index := 70#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10335 : BitVec 32 := Scalar.addi v1357 c0_i32_2052
  let v10336 : BitVec 32 := v10335
  let v10344 : Index := Scalar.indexCast v10336
  ![70, v10344.toNat]
def k0_off86 (k0_t1 : Fin k0_t1_loop.trips) (c0_i32_2052 : BitVec 32) : Fin 2 → Nat :=
  let c33 : Index := 33#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10335 : BitVec 32 := Scalar.addi v1357 c0_i32_2052
  let v10336 : BitVec 32 := v10335
  let v10476 : Index := Scalar.indexCast v10336
  ![33, v10476.toNat]
def k0_off87 (k0_t1 : Fin k0_t1_loop.trips) (c0_i32_2052 : BitVec 32) : Fin 2 → Nat :=
  let c71 : Index := 71#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10335 : BitVec 32 := Scalar.addi v1357 c0_i32_2052
  let v10336 : BitVec 32 := v10335
  let v10480 : Index := Scalar.indexCast v10336
  ![71, v10480.toNat]
def k0_mult34 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_2098 : BitVec 32 := 128#32
  let v10613 : BitVec 32 := Scalar.addi v1357 c128_i32_2098
  v10613
def k0_mult35 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_2152 : BitVec 32 := 0#32
  let v10896 : BitVec 32 := Scalar.addi v1357 c0_i32_2152
  v10896
def k0_off88 (k0_t1 : Fin k0_t1_loop.trips) (c0_i32_2152 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10896 : BitVec 32 := Scalar.addi v1357 c0_i32_2152
  let v10897 : BitVec 32 := v10896
  let v10898 : Index := Scalar.indexCast v10897
  let c2176 : Index := 2176#32
  ![v10898.toNat, 2176]
def k0_off89 (k0_t1 : Fin k0_t1_loop.trips) (c0_i32_2152 : BitVec 32) : Fin 2 → Nat :=
  let c34 : Index := 34#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10896 : BitVec 32 := Scalar.addi v1357 c0_i32_2152
  let v10897 : BitVec 32 := v10896
  let v10901 : Index := Scalar.indexCast v10897
  ![34, v10901.toNat]
def k0_off90 (k0_t1 : Fin k0_t1_loop.trips) (c0_i32_2152 : BitVec 32) : Fin 2 → Nat :=
  let c72_2153 : Index := 72#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10896 : BitVec 32 := Scalar.addi v1357 c0_i32_2152
  let v10897 : BitVec 32 := v10896
  let v10905 : Index := Scalar.indexCast v10897
  ![72, v10905.toNat]
def k0_off91 (k0_t1 : Fin k0_t1_loop.trips) (c0_i32_2152 : BitVec 32) : Fin 2 → Nat :=
  let c35 : Index := 35#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10896 : BitVec 32 := Scalar.addi v1357 c0_i32_2152
  let v10897 : BitVec 32 := v10896
  let v11037 : Index := Scalar.indexCast v10897
  ![35, v11037.toNat]
def k0_off92 (k0_t1 : Fin k0_t1_loop.trips) (c0_i32_2152 : BitVec 32) : Fin 2 → Nat :=
  let c73 : Index := 73#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10896 : BitVec 32 := Scalar.addi v1357 c0_i32_2152
  let v10897 : BitVec 32 := v10896
  let v11041 : Index := Scalar.indexCast v10897
  ![73, v11041.toNat]
def k0_mult36 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_2198 : BitVec 32 := 128#32
  let v11174 : BitVec 32 := Scalar.addi v1357 c128_i32_2198
  v11174
def k0_mult37 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_2252 : BitVec 32 := 0#32
  let v11457 : BitVec 32 := Scalar.addi v1357 c0_i32_2252
  v11457
def k0_off93 (k0_t1 : Fin k0_t1_loop.trips) (c0_i32_2252 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v11457 : BitVec 32 := Scalar.addi v1357 c0_i32_2252
  let v11458 : BitVec 32 := v11457
  let v11459 : Index := Scalar.indexCast v11458
  let c2304 : Index := 2304#32
  ![v11459.toNat, 2304]
def k0_off94 (k0_t1 : Fin k0_t1_loop.trips) (c0_i32_2252 : BitVec 32) : Fin 2 → Nat :=
  let c36 : Index := 36#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v11457 : BitVec 32 := Scalar.addi v1357 c0_i32_2252
  let v11458 : BitVec 32 := v11457
  let v11462 : Index := Scalar.indexCast v11458
  ![36, v11462.toNat]
def k0_off95 (k0_t1 : Fin k0_t1_loop.trips) (c0_i32_2252 : BitVec 32) : Fin 2 → Nat :=
  let c74 : Index := 74#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v11457 : BitVec 32 := Scalar.addi v1357 c0_i32_2252
  let v11458 : BitVec 32 := v11457
  let v11466 : Index := Scalar.indexCast v11458
  ![74, v11466.toNat]
def k0_off96 (k0_t1 : Fin k0_t1_loop.trips) (c0_i32_2252 : BitVec 32) : Fin 2 → Nat :=
  let c37 : Index := 37#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v11457 : BitVec 32 := Scalar.addi v1357 c0_i32_2252
  let v11458 : BitVec 32 := v11457
  let v11598 : Index := Scalar.indexCast v11458
  ![37, v11598.toNat]
def k0_off97 (k0_t1 : Fin k0_t1_loop.trips) (c0_i32_2252 : BitVec 32) : Fin 2 → Nat :=
  let c75 : Index := 75#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v11457 : BitVec 32 := Scalar.addi v1357 c0_i32_2252
  let v11458 : BitVec 32 := v11457
  let v11602 : Index := Scalar.indexCast v11458
  ![75, v11602.toNat]
def k0_mult38 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_2297 : BitVec 32 := 128#32
  let v11735 : BitVec 32 := Scalar.addi v1357 c128_i32_2297
  v11735
def k0_mult39 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  v1357
def k0_off98 (k0_t1 : Fin k0_t1_loop.trips) : Fin 2 → Nat :=
  let c0_2351 : Index := 0#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v12019 : BitVec 32 := v1357
  let v12020 : Index := Scalar.indexCast v12019
  ![0, v12020.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x4864 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x2432 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S76x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S75x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S48x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S48x1x4864 : Shape := ⟨3, ![48, 1, 4864]⟩
abbrev S31488x2432 : Shape := ⟨2, ![31488, 2432]⟩
abbrev S31488x76 : Shape := ⟨2, ![31488, 76]⟩
abbrev S9348 : Shape := ⟨1, ![9348]⟩
abbrev S_ : Shape := ⟨0, ![]⟩
abbrev S48x4864 : Shape := ⟨2, ![48, 4864]⟩
abbrev S9600 : Shape := ⟨1, ![9600]⟩
abbrev S75x128 : Shape := ⟨2, ![75, 128]⟩
abbrev S76x31488 : Shape := ⟨2, ![76, 31488]⟩
abbrev S1 : Shape := ⟨1, ![1]⟩
abbrev S48x31488 : Shape := ⟨2, ![48, 31488]⟩
abbrev S768x2432 : Shape := ⟨2, ![768, 2432]⟩
abbrev S76x768 : Shape := ⟨2, ![76, 768]⟩
abbrev S48x768 : Shape := ⟨2, ![48, 768]⟩
abbrev S19x48x256 : Shape := ⟨3, ![19, 48, 256]⟩
abbrev S76x2x768 : Shape := ⟨3, ![76, 2, 768]⟩
abbrev S76x1x768 : Shape := ⟨3, ![76, 1, 768]⟩
abbrev S128x128 : Shape := ⟨2, ![128, 128]⟩
abbrev S48x128 : Shape := ⟨2, ![48, 128]⟩
abbrev S1x48x128 : Shape := ⟨3, ![1, 48, 128]⟩
abbrev S8x128 : Shape := ⟨2, ![8, 128]⟩
abbrev S32x128 : Shape := ⟨2, ![32, 128]⟩
abbrev S1x128 : Shape := ⟨2, ![1, 128]⟩
abbrev S8x128x1 : Shape := ⟨3, ![8, 128, 1]⟩
abbrev S8x2x128 : Shape := ⟨3, ![8, 2, 128]⟩
abbrev S8x1x128 : Shape := ⟨3, ![8, 1, 128]⟩
abbrev S4x128 : Shape := ⟨2, ![4, 128]⟩
abbrev S4x2x128 : Shape := ⟨3, ![4, 2, 128]⟩
abbrev S4x1x128 : Shape := ⟨3, ![4, 1, 128]⟩
abbrev S48x256 : Shape := ⟨2, ![48, 256]⟩
abbrev S1x2x128 : Shape := ⟨3, ![1, 2, 128]⟩
abbrev S1x1x128 : Shape := ⟨3, ![1, 1, 128]⟩
abbrev S16x128 : Shape := ⟨2, ![16, 128]⟩
abbrev S32x128x1 : Shape := ⟨3, ![32, 128, 1]⟩
abbrev S256x128 : Shape := ⟨2, ![256, 128]⟩
abbrev S256x256 : Shape := ⟨2, ![256, 256]⟩
abbrev S1x48x256 : Shape := ⟨3, ![1, 48, 256]⟩

abbrev nBuf : Space → Nat
  | .hbm => 13
  | .vmem => 11
  | .smem => 1
  | _ => 0

abbrev bufTy : (tb : Table) → Fin (tcTables nBuf tb) → BufTy
  | .hbm, ⟨0, _⟩ => ⟨S48x1x4864, .bf16⟩
  | .hbm, ⟨1, _⟩ => ⟨S31488x2432, .i8⟩
  | .hbm, ⟨2, _⟩ => ⟨S31488x76, .i8⟩
  | .hbm, ⟨3, _⟩ => ⟨S9348, .f32⟩
  | .hbm, ⟨4, _⟩ => ⟨S_, .f32⟩
  | .hbm, ⟨5, _⟩ => ⟨S48x4864, .bf16⟩
  | .hbm, ⟨6, _⟩ => ⟨S_, .i32⟩
  | .hbm, ⟨7, _⟩ => ⟨S_, .f32⟩
  | .hbm, ⟨8, _⟩ => ⟨S9600, .f32⟩
  | .hbm, ⟨9, _⟩ => ⟨S75x128, .f32⟩
  | .hbm, ⟨10, _⟩ => ⟨S76x31488, .i8⟩
  | .hbm, ⟨11, _⟩ => ⟨S1, .f32⟩
  | .hbm, ⟨12, _⟩ => ⟨S48x31488, .bf16⟩
  | .local _ .vmem, ⟨0, _⟩ => ⟨S48x4864, .bf16⟩
  | .local _ .vmem, ⟨1, _⟩ => ⟨S768x2432, .i8⟩
  | .local _ .vmem, ⟨2, _⟩ => ⟨S768x2432, .i8⟩
  | .local _ .vmem, ⟨3, _⟩ => ⟨S76x768, .i8⟩
  | .local _ .vmem, ⟨4, _⟩ => ⟨S76x768, .i8⟩
  | .local _ .vmem, ⟨5, _⟩ => ⟨S75x128, .f32⟩
  | .local _ .vmem, ⟨6, _⟩ => ⟨S48x768, .bf16⟩
  | .local _ .vmem, ⟨7, _⟩ => ⟨S48x768, .bf16⟩
  | .local _ .vmem, ⟨8, _⟩ => ⟨S19x48x256, .bf16⟩
  | .local _ .vmem, ⟨9, _⟩ => ⟨S76x2x768, .bf16⟩
  | .local _ .vmem, ⟨10, _⟩ => ⟨S75x128, .f32⟩
  | .local _ .smem, ⟨0, _⟩ => ⟨S1, .f32⟩
  | _, _ => ⟨S48x1x4864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg4_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![41], ![false]⟩

def k0_off1 (i : grid0.Coords) (c0_i32_24 : BitVec 32) : Fin 2 → Nat :=
  let arg0 : BitVec 32 := BitVec.ofNat 32 (i 0).val
  let c6_i32 : BitVec 32 := 6#32
  let v96 : BitVec 32 := Scalar.muli arg0 c6_i32
  let v97 : BitVec 32 := Scalar.addi v96 c0_i32_24
  let c38_i32 : BitVec 32 := 38#32
  let v98 : BitVec 32 := Scalar.muli v97 c38_i32
  let c0_i32_25 : BitVec 32 := 0#32
  let v100 : BitVec 1 := Scalar.cmpi .sgt v98 c0_i32_25
  let v101 : BitVec 32 := Scalar.extui v100
  let c0_i32_26 : BitVec 32 := 0#32
  let v102 : BitVec 1 := Scalar.cmpi .slt v98 c0_i32_26
  let v103 : BitVec 32 := Scalar.extui v102
  let v104 : BitVec 32 := Scalar.subi v101 v103
  let c128_i32 : BitVec 32 := 128#32
  let c0_i32_27 : BitVec 32 := 0#32
  let v105 : BitVec 1 := Scalar.cmpi .sgt c128_i32 c0_i32_27
  let v106 : BitVec 32 := Scalar.extui v105
  let c0_i32_28 : BitVec 32 := 0#32
  let v107 : BitVec 1 := Scalar.cmpi .slt c128_i32 c0_i32_28
  let v108 : BitVec 32 := Scalar.extui v107
  let v109 : BitVec 32 := Scalar.subi v106 v108
  let v110 : BitVec 1 := Scalar.cmpi .ne v104 v109
  let v111 : BitVec 32 := Scalar.remsi v98 c128_i32
  let c0_i32_29 : BitVec 32 := 0#32
  let v112 : BitVec 1 := Scalar.cmpi .ne v111 c0_i32_29
  let v113 : BitVec 1 := Scalar.andi v110 v112
  let v99 : BitVec 32 := Scalar.divsi v98 c128_i32
  let c1_i32_30 : BitVec 32 := 1#32
  let v114 : BitVec 32 := Scalar.subi v99 c1_i32_30
  let v115 : BitVec 32 := Scalar.select v113 v114 v99
  let v126 : Index := Scalar.indexCast v115
  let c0_37 : Index := 0#32
  ![v126.toNat, 0]
def k0_off2 (i : grid0.Coords) (c0_i32_24 : BitVec 32) : Fin 2 → Nat :=
  let arg0 : BitVec 32 := BitVec.ofNat 32 (i 0).val
  let c6_i32 : BitVec 32 := 6#32
  let v96 : BitVec 32 := Scalar.muli arg0 c6_i32
  let v97 : BitVec 32 := Scalar.addi v96 c0_i32_24
  let c38_i32 : BitVec 32 := 38#32
  let v98 : BitVec 32 := Scalar.muli v97 c38_i32
  let c0_i32_25 : BitVec 32 := 0#32
  let v100 : BitVec 1 := Scalar.cmpi .sgt v98 c0_i32_25
  let v101 : BitVec 32 := Scalar.extui v100
  let c0_i32_26 : BitVec 32 := 0#32
  let v102 : BitVec 1 := Scalar.cmpi .slt v98 c0_i32_26
  let v103 : BitVec 32 := Scalar.extui v102
  let v104 : BitVec 32 := Scalar.subi v101 v103
  let c128_i32 : BitVec 32 := 128#32
  let c0_i32_27 : BitVec 32 := 0#32
  let v105 : BitVec 1 := Scalar.cmpi .sgt c128_i32 c0_i32_27
  let v106 : BitVec 32 := Scalar.extui v105
  let c0_i32_28 : BitVec 32 := 0#32
  let v107 : BitVec 1 := Scalar.cmpi .slt c128_i32 c0_i32_28
  let v108 : BitVec 32 := Scalar.extui v107
  let v109 : BitVec 32 := Scalar.subi v106 v108
  let v110 : BitVec 1 := Scalar.cmpi .ne v104 v109
  let v111 : BitVec 32 := Scalar.remsi v98 c128_i32
  let c0_i32_29 : BitVec 32 := 0#32
  let v112 : BitVec 1 := Scalar.cmpi .ne v111 c0_i32_29
  let v113 : BitVec 1 := Scalar.andi v110 v112
  let v99 : BitVec 32 := Scalar.divsi v98 c128_i32
  let c1_i32_30 : BitVec 32 := 1#32
  let v114 : BitVec 32 := Scalar.subi v99 c1_i32_30
  let v115 : BitVec 32 := Scalar.select v113 v114 v99
  let c1_i32_38 : BitVec 32 := 1#32
  let v130 : BitVec 32 := Scalar.addi v115 c1_i32_38
  let v131 : Index := Scalar.indexCast v130
  let c0_39 : Index := 0#32
  ![v131.toNat, 0]
@[reducible] def k0_t1_loop : Scf.Loop 32 :=
  let c0_i32_451 : BitVec 32 := 0#32
  let c3_i32_452 : BitVec 32 := 3#32
  let v1356 : BitVec 32 := Scalar.addi c0_i32_451 c3_i32_452
  let c1_i32_453 : BitVec 32 := 1#32
  ⟨c0_i32_451, v1356, c1_i32_453⟩
def k0_mult1 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_456 : BitVec 32 := 0#32
  let v1359 : BitVec 32 := Scalar.addi v1357 c0_i32_456
  v1359
def k0_off3 (k0_t1 : Fin k0_t1_loop.trips) (c0_i32_456 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1359 : BitVec 32 := Scalar.addi v1357 c0_i32_456
  let v1360 : BitVec 32 := v1359
  let v1361 : Index := Scalar.indexCast v1360
  let c0_457 : Index := 0#32
  ![v1361.toNat, 0]
def k0_off4 (k0_t1 : Fin k0_t1_loop.trips) (c0_i32_456 : BitVec 32) : Fin 3 → Nat :=
  let c0_458 : Index := 0#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1359 : BitVec 32 := Scalar.addi v1357 c0_i32_456
  let v1360 : BitVec 32 := v1359
  let v1364 : Index := Scalar.indexCast v1360
  ![0, 0, v1364.toNat]
def k0_off5 (k0_t1 : Fin k0_t1_loop.trips) (c0_i32_456 : BitVec 32) : Fin 3 → Nat :=
  let c38 : Index := 38#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1359 : BitVec 32 := Scalar.addi v1357 c0_i32_456
  let v1360 : BitVec 32 := v1359
  let v1368 : Index := Scalar.indexCast v1360
  ![38, 0, v1368.toNat]
def k0_off6 (k0_t1 : Fin k0_t1_loop.trips) (c0_i32_456 : BitVec 32) : Fin 3 → Nat :=
  let c1 : Index := 1#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1359 : BitVec 32 := Scalar.addi v1357 c0_i32_456
  let v1360 : BitVec 32 := v1359
  let v1500 : Index := Scalar.indexCast v1360
  ![1, 0, v1500.toNat]
def k0_off7 (k0_t1 : Fin k0_t1_loop.trips) (c0_i32_456 : BitVec 32) : Fin 3 → Nat :=
  let c39 : Index := 39#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1359 : BitVec 32 := Scalar.addi v1357 c0_i32_456
  let v1360 : BitVec 32 := v1359
  let v1504 : Index := Scalar.indexCast v1360
  ![39, 0, v1504.toNat]
def k0_mult2 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_501 : BitVec 32 := 128#32
  let v1637 : BitVec 32 := Scalar.addi v1357 c128_i32_501
  v1637
def k0_mult3 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_555 : BitVec 32 := 0#32
  let v1920 : BitVec 32 := Scalar.addi v1357 c0_i32_555
  v1920
def k0_off8 (k0_t1 : Fin k0_t1_loop.trips) (c0_i32_555 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1920 : BitVec 32 := Scalar.addi v1357 c0_i32_555
  let v1921 : BitVec 32 := v1920
  let v1922 : Index := Scalar.indexCast v1921
  let c128_556 : Index := 128#32
  ![v1922.toNat, 128]
def k0_off9 (k0_t1 : Fin k0_t1_loop.trips) (c0_i32_555 : BitVec 32) : Fin 3 → Nat :=
  let c2 : Index := 2#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1920 : BitVec 32 := Scalar.addi v1357 c0_i32_555
  let v1921 : BitVec 32 := v1920
  let v1925 : Index := Scalar.indexCast v1921
  ![2, 0, v1925.toNat]
def k0_off10 (k0_t1 : Fin k0_t1_loop.trips) (c0_i32_555 : BitVec 32) : Fin 3 → Nat :=
  let c40_557 : Index := 40#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1920 : BitVec 32 := Scalar.addi v1357 c0_i32_555
  let v1921 : BitVec 32 := v1920
  let v1929 : Index := Scalar.indexCast v1921
  ![40, 0, v1929.toNat]
def k0_off11 (k0_t1 : Fin k0_t1_loop.trips) (c0_i32_555 : BitVec 32) : Fin 3 → Nat :=
  let c3 : Index := 3#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1920 : BitVec 32 := Scalar.addi v1357 c0_i32_555
  let v1921 : BitVec 32 := v1920
  let v2061 : Index := Scalar.indexCast v1921
  ![3, 0, v2061.toNat]
def k0_off12 (k0_t1 : Fin k0_t1_loop.trips) (c0_i32_555 : BitVec 32) : Fin 3 → Nat :=
  let c41 : Index := 41#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v1920 : BitVec 32 := Scalar.addi v1357 c0_i32_555
  let v1921 : BitVec 32 := v1920
  let v2065 : Index := Scalar.indexCast v1921
  ![41, 0, v2065.toNat]
def k0_mult4 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_602 : BitVec 32 := 128#32
  let v2198 : BitVec 32 := Scalar.addi v1357 c128_i32_602
  v2198
def k0_mult5 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_656 : BitVec 32 := 0#32
  let v2481 : BitVec 32 := Scalar.addi v1357 c0_i32_656
  v2481
def k0_off13 (k0_t1 : Fin k0_t1_loop.trips) (c0_i32_656 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v2481 : BitVec 32 := Scalar.addi v1357 c0_i32_656
  let v2482 : BitVec 32 := v2481
  let v2483 : Index := Scalar.indexCast v2482
  let c256_657 : Index := 256#32
  ![v2483.toNat, 256]
def k0_off14 (k0_t1 : Fin k0_t1_loop.trips) (c0_i32_656 : BitVec 32) : Fin 3 → Nat :=
  let c4 : Index := 4#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v2481 : BitVec 32 := Scalar.addi v1357 c0_i32_656
  let v2482 : BitVec 32 := v2481
  let v2486 : Index := Scalar.indexCast v2482
  ![4, 0, v2486.toNat]
def k0_off15 (k0_t1 : Fin k0_t1_loop.trips) (c0_i32_656 : BitVec 32) : Fin 3 → Nat :=
  let c42 : Index := 42#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v2481 : BitVec 32 := Scalar.addi v1357 c0_i32_656
  let v2482 : BitVec 32 := v2481
  let v2490 : Index := Scalar.indexCast v2482
  ![42, 0, v2490.toNat]
def k0_off16 (k0_t1 : Fin k0_t1_loop.trips) (c0_i32_656 : BitVec 32) : Fin 3 → Nat :=
  let c5 : Index := 5#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v2481 : BitVec 32 := Scalar.addi v1357 c0_i32_656
  let v2482 : BitVec 32 := v2481
  let v2622 : Index := Scalar.indexCast v2482
  ![5, 0, v2622.toNat]
def k0_off17 (k0_t1 : Fin k0_t1_loop.trips) (c0_i32_656 : BitVec 32) : Fin 3 → Nat :=
  let c43 : Index := 43#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v2481 : BitVec 32 := Scalar.addi v1357 c0_i32_656
  let v2482 : BitVec 32 := v2481
  let v2626 : Index := Scalar.indexCast v2482
  ![43, 0, v2626.toNat]
def k0_mult6 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_702 : BitVec 32 := 128#32
  let v2759 : BitVec 32 := Scalar.addi v1357 c128_i32_702
  v2759
def k0_mult7 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_756 : BitVec 32 := 0#32
  let v3042 : BitVec 32 := Scalar.addi v1357 c0_i32_756
  v3042
def k0_off18 (k0_t1 : Fin k0_t1_loop.trips) (c0_i32_756 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3042 : BitVec 32 := Scalar.addi v1357 c0_i32_756
  let v3043 : BitVec 32 := v3042
  let v3044 : Index := Scalar.indexCast v3043
  let c384_757 : Index := 384#32
  ![v3044.toNat, 384]
def k0_off19 (k0_t1 : Fin k0_t1_loop.trips) (c0_i32_756 : BitVec 32) : Fin 3 → Nat :=
  let c6 : Index := 6#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3042 : BitVec 32 := Scalar.addi v1357 c0_i32_756
  let v3043 : BitVec 32 := v3042
  let v3047 : Index := Scalar.indexCast v3043
  ![6, 0, v3047.toNat]
def k0_off20 (k0_t1 : Fin k0_t1_loop.trips) (c0_i32_756 : BitVec 32) : Fin 3 → Nat :=
  let c44 : Index := 44#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3042 : BitVec 32 := Scalar.addi v1357 c0_i32_756
  let v3043 : BitVec 32 := v3042
  let v3051 : Index := Scalar.indexCast v3043
  ![44, 0, v3051.toNat]
def k0_off21 (k0_t1 : Fin k0_t1_loop.trips) (c0_i32_756 : BitVec 32) : Fin 3 → Nat :=
  let c7 : Index := 7#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3042 : BitVec 32 := Scalar.addi v1357 c0_i32_756
  let v3043 : BitVec 32 := v3042
  let v3183 : Index := Scalar.indexCast v3043
  ![7, 0, v3183.toNat]
def k0_off22 (k0_t1 : Fin k0_t1_loop.trips) (c0_i32_756 : BitVec 32) : Fin 3 → Nat :=
  let c45 : Index := 45#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3042 : BitVec 32 := Scalar.addi v1357 c0_i32_756
  let v3043 : BitVec 32 := v3042
  let v3187 : Index := Scalar.indexCast v3043
  ![45, 0, v3187.toNat]
def k0_mult8 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_802 : BitVec 32 := 128#32
  let v3320 : BitVec 32 := Scalar.addi v1357 c128_i32_802
  v3320
def k0_mult9 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_856 : BitVec 32 := 0#32
  let v3603 : BitVec 32 := Scalar.addi v1357 c0_i32_856
  v3603
def k0_off23 (k0_t1 : Fin k0_t1_loop.trips) (c0_i32_856 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3603 : BitVec 32 := Scalar.addi v1357 c0_i32_856
  let v3604 : BitVec 32 := v3603
  let v3605 : Index := Scalar.indexCast v3604
  let c512_857 : Index := 512#32
  ![v3605.toNat, 512]
def k0_off24 (k0_t1 : Fin k0_t1_loop.trips) (c0_i32_856 : BitVec 32) : Fin 3 → Nat :=
  let c8_858 : Index := 8#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3603 : BitVec 32 := Scalar.addi v1357 c0_i32_856
  let v3604 : BitVec 32 := v3603
  let v3608 : Index := Scalar.indexCast v3604
  ![8, 0, v3608.toNat]
def k0_off25 (k0_t1 : Fin k0_t1_loop.trips) (c0_i32_856 : BitVec 32) : Fin 3 → Nat :=
  let c46 : Index := 46#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3603 : BitVec 32 := Scalar.addi v1357 c0_i32_856
  let v3604 : BitVec 32 := v3603
  let v3612 : Index := Scalar.indexCast v3604
  ![46, 0, v3612.toNat]
def k0_off26 (k0_t1 : Fin k0_t1_loop.trips) (c0_i32_856 : BitVec 32) : Fin 3 → Nat :=
  let c9 : Index := 9#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3603 : BitVec 32 := Scalar.addi v1357 c0_i32_856
  let v3604 : BitVec 32 := v3603
  let v3744 : Index := Scalar.indexCast v3604
  ![9, 0, v3744.toNat]
def k0_off27 (k0_t1 : Fin k0_t1_loop.trips) (c0_i32_856 : BitVec 32) : Fin 3 → Nat :=
  let c47 : Index := 47#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v3603 : BitVec 32 := Scalar.addi v1357 c0_i32_856
  let v3604 : BitVec 32 := v3603
  let v3748 : Index := Scalar.indexCast v3604
  ![47, 0, v3748.toNat]
def k0_mult10 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_903 : BitVec 32 := 128#32
  let v3881 : BitVec 32 := Scalar.addi v1357 c128_i32_903
  v3881
def k0_mult11 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_957 : BitVec 32 := 0#32
  let v4164 : BitVec 32 := Scalar.addi v1357 c0_i32_957
  v4164
def k0_off28 (k0_t1 : Fin k0_t1_loop.trips) (c0_i32_957 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4164 : BitVec 32 := Scalar.addi v1357 c0_i32_957
  let v4165 : BitVec 32 := v4164
  let v4166 : Index := Scalar.indexCast v4165
  let c640_958 : Index := 640#32
  ![v4166.toNat, 640]
def k0_off29 (k0_t1 : Fin k0_t1_loop.trips) (c0_i32_957 : BitVec 32) : Fin 3 → Nat :=
  let c10 : Index := 10#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4164 : BitVec 32 := Scalar.addi v1357 c0_i32_957
  let v4165 : BitVec 32 := v4164
  let v4169 : Index := Scalar.indexCast v4165
  ![10, 0, v4169.toNat]
def k0_off30 (k0_t1 : Fin k0_t1_loop.trips) (c0_i32_957 : BitVec 32) : Fin 3 → Nat :=
  let c48_959 : Index := 48#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4164 : BitVec 32 := Scalar.addi v1357 c0_i32_957
  let v4165 : BitVec 32 := v4164
  let v4173 : Index := Scalar.indexCast v4165
  ![48, 0, v4173.toNat]
def k0_off31 (k0_t1 : Fin k0_t1_loop.trips) (c0_i32_957 : BitVec 32) : Fin 3 → Nat :=
  let c11 : Index := 11#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4164 : BitVec 32 := Scalar.addi v1357 c0_i32_957
  let v4165 : BitVec 32 := v4164
  let v4305 : Index := Scalar.indexCast v4165
  ![11, 0, v4305.toNat]
def k0_off32 (k0_t1 : Fin k0_t1_loop.trips) (c0_i32_957 : BitVec 32) : Fin 3 → Nat :=
  let c49 : Index := 49#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4164 : BitVec 32 := Scalar.addi v1357 c0_i32_957
  let v4165 : BitVec 32 := v4164
  let v4309 : Index := Scalar.indexCast v4165
  ![49, 0, v4309.toNat]
def k0_mult12 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1004 : BitVec 32 := 128#32
  let v4442 : BitVec 32 := Scalar.addi v1357 c128_i32_1004
  v4442
def k0_mult13 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1058 : BitVec 32 := 0#32
  let v4725 : BitVec 32 := Scalar.addi v1357 c0_i32_1058
  v4725
def k0_off33 (k0_t1 : Fin k0_t1_loop.trips) (c0_i32_1058 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4725 : BitVec 32 := Scalar.addi v1357 c0_i32_1058
  let v4726 : BitVec 32 := v4725
  let v4727 : Index := Scalar.indexCast v4726
  let c768 : Index := 768#32
  ![v4727.toNat, 768]
def k0_off34 (k0_t1 : Fin k0_t1_loop.trips) (c0_i32_1058 : BitVec 32) : Fin 3 → Nat :=
  let c12 : Index := 12#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4725 : BitVec 32 := Scalar.addi v1357 c0_i32_1058
  let v4726 : BitVec 32 := v4725
  let v4730 : Index := Scalar.indexCast v4726
  ![12, 0, v4730.toNat]
def k0_off35 (k0_t1 : Fin k0_t1_loop.trips) (c0_i32_1058 : BitVec 32) : Fin 3 → Nat :=
  let c50 : Index := 50#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4725 : BitVec 32 := Scalar.addi v1357 c0_i32_1058
  let v4726 : BitVec 32 := v4725
  let v4734 : Index := Scalar.indexCast v4726
  ![50, 0, v4734.toNat]
def k0_off36 (k0_t1 : Fin k0_t1_loop.trips) (c0_i32_1058 : BitVec 32) : Fin 3 → Nat :=
  let c13 : Index := 13#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4725 : BitVec 32 := Scalar.addi v1357 c0_i32_1058
  let v4726 : BitVec 32 := v4725
  let v4866 : Index := Scalar.indexCast v4726
  ![13, 0, v4866.toNat]
def k0_off37 (k0_t1 : Fin k0_t1_loop.trips) (c0_i32_1058 : BitVec 32) : Fin 3 → Nat :=
  let c51 : Index := 51#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v4725 : BitVec 32 := Scalar.addi v1357 c0_i32_1058
  let v4726 : BitVec 32 := v4725
  let v4870 : Index := Scalar.indexCast v4726
  ![51, 0, v4870.toNat]
def k0_mult14 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1103 : BitVec 32 := 128#32
  let v5003 : BitVec 32 := Scalar.addi v1357 c128_i32_1103
  v5003
def k0_mult15 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1157 : BitVec 32 := 0#32
  let v5286 : BitVec 32 := Scalar.addi v1357 c0_i32_1157
  v5286
def k0_off38 (k0_t1 : Fin k0_t1_loop.trips) (c0_i32_1157 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5286 : BitVec 32 := Scalar.addi v1357 c0_i32_1157
  let v5287 : BitVec 32 := v5286
  let v5288 : Index := Scalar.indexCast v5287
  let c896 : Index := 896#32
  ![v5288.toNat, 896]
def k0_off39 (k0_t1 : Fin k0_t1_loop.trips) (c0_i32_1157 : BitVec 32) : Fin 3 → Nat :=
  let c14 : Index := 14#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5286 : BitVec 32 := Scalar.addi v1357 c0_i32_1157
  let v5287 : BitVec 32 := v5286
  let v5291 : Index := Scalar.indexCast v5287
  ![14, 0, v5291.toNat]
def k0_off40 (k0_t1 : Fin k0_t1_loop.trips) (c0_i32_1157 : BitVec 32) : Fin 3 → Nat :=
  let c52 : Index := 52#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5286 : BitVec 32 := Scalar.addi v1357 c0_i32_1157
  let v5287 : BitVec 32 := v5286
  let v5295 : Index := Scalar.indexCast v5287
  ![52, 0, v5295.toNat]
def k0_off41 (k0_t1 : Fin k0_t1_loop.trips) (c0_i32_1157 : BitVec 32) : Fin 3 → Nat :=
  let c15 : Index := 15#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5286 : BitVec 32 := Scalar.addi v1357 c0_i32_1157
  let v5287 : BitVec 32 := v5286
  let v5427 : Index := Scalar.indexCast v5287
  ![15, 0, v5427.toNat]
def k0_off42 (k0_t1 : Fin k0_t1_loop.trips) (c0_i32_1157 : BitVec 32) : Fin 3 → Nat :=
  let c53 : Index := 53#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5286 : BitVec 32 := Scalar.addi v1357 c0_i32_1157
  let v5287 : BitVec 32 := v5286
  let v5431 : Index := Scalar.indexCast v5287
  ![53, 0, v5431.toNat]
def k0_mult16 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1202 : BitVec 32 := 128#32
  let v5564 : BitVec 32 := Scalar.addi v1357 c128_i32_1202
  v5564
def k0_mult17 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1256 : BitVec 32 := 0#32
  let v5847 : BitVec 32 := Scalar.addi v1357 c0_i32_1256
  v5847
def k0_off43 (k0_t1 : Fin k0_t1_loop.trips) (c0_i32_1256 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5847 : BitVec 32 := Scalar.addi v1357 c0_i32_1256
  let v5848 : BitVec 32 := v5847
  let v5849 : Index := Scalar.indexCast v5848
  let c1024 : Index := 1024#32
  ![v5849.toNat, 1024]
def k0_off44 (k0_t1 : Fin k0_t1_loop.trips) (c0_i32_1256 : BitVec 32) : Fin 3 → Nat :=
  let c16_1257 : Index := 16#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5847 : BitVec 32 := Scalar.addi v1357 c0_i32_1256
  let v5848 : BitVec 32 := v5847
  let v5852 : Index := Scalar.indexCast v5848
  ![16, 0, v5852.toNat]
def k0_off45 (k0_t1 : Fin k0_t1_loop.trips) (c0_i32_1256 : BitVec 32) : Fin 3 → Nat :=
  let c54 : Index := 54#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5847 : BitVec 32 := Scalar.addi v1357 c0_i32_1256
  let v5848 : BitVec 32 := v5847
  let v5856 : Index := Scalar.indexCast v5848
  ![54, 0, v5856.toNat]
def k0_off46 (k0_t1 : Fin k0_t1_loop.trips) (c0_i32_1256 : BitVec 32) : Fin 3 → Nat :=
  let c17 : Index := 17#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5847 : BitVec 32 := Scalar.addi v1357 c0_i32_1256
  let v5848 : BitVec 32 := v5847
  let v5988 : Index := Scalar.indexCast v5848
  ![17, 0, v5988.toNat]
def k0_off47 (k0_t1 : Fin k0_t1_loop.trips) (c0_i32_1256 : BitVec 32) : Fin 3 → Nat :=
  let c55 : Index := 55#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v5847 : BitVec 32 := Scalar.addi v1357 c0_i32_1256
  let v5848 : BitVec 32 := v5847
  let v5992 : Index := Scalar.indexCast v5848
  ![55, 0, v5992.toNat]
def k0_mult18 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1302 : BitVec 32 := 128#32
  let v6125 : BitVec 32 := Scalar.addi v1357 c128_i32_1302
  v6125
def k0_mult19 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1356 : BitVec 32 := 0#32
  let v6408 : BitVec 32 := Scalar.addi v1357 c0_i32_1356
  v6408
def k0_off48 (k0_t1 : Fin k0_t1_loop.trips) (c0_i32_1356 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6408 : BitVec 32 := Scalar.addi v1357 c0_i32_1356
  let v6409 : BitVec 32 := v6408
  let v6410 : Index := Scalar.indexCast v6409
  let c1152 : Index := 1152#32
  ![v6410.toNat, 1152]
def k0_off49 (k0_t1 : Fin k0_t1_loop.trips) (c0_i32_1356 : BitVec 32) : Fin 3 → Nat :=
  let c18 : Index := 18#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6408 : BitVec 32 := Scalar.addi v1357 c0_i32_1356
  let v6409 : BitVec 32 := v6408
  let v6413 : Index := Scalar.indexCast v6409
  ![18, 0, v6413.toNat]
def k0_off50 (k0_t1 : Fin k0_t1_loop.trips) (c0_i32_1356 : BitVec 32) : Fin 3 → Nat :=
  let c56_1357 : Index := 56#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6408 : BitVec 32 := Scalar.addi v1357 c0_i32_1356
  let v6409 : BitVec 32 := v6408
  let v6417 : Index := Scalar.indexCast v6409
  ![56, 0, v6417.toNat]
def k0_off51 (k0_t1 : Fin k0_t1_loop.trips) (c0_i32_1356 : BitVec 32) : Fin 3 → Nat :=
  let c19 : Index := 19#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6408 : BitVec 32 := Scalar.addi v1357 c0_i32_1356
  let v6409 : BitVec 32 := v6408
  let v6549 : Index := Scalar.indexCast v6409
  ![19, 0, v6549.toNat]
def k0_off52 (k0_t1 : Fin k0_t1_loop.trips) (c0_i32_1356 : BitVec 32) : Fin 3 → Nat :=
  let c57 : Index := 57#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6408 : BitVec 32 := Scalar.addi v1357 c0_i32_1356
  let v6409 : BitVec 32 := v6408
  let v6553 : Index := Scalar.indexCast v6409
  ![57, 0, v6553.toNat]
def k0_mult20 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1402 : BitVec 32 := 128#32
  let v6686 : BitVec 32 := Scalar.addi v1357 c128_i32_1402
  v6686
def k0_mult21 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1456 : BitVec 32 := 0#32
  let v6969 : BitVec 32 := Scalar.addi v1357 c0_i32_1456
  v6969
def k0_off53 (k0_t1 : Fin k0_t1_loop.trips) (c0_i32_1456 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6969 : BitVec 32 := Scalar.addi v1357 c0_i32_1456
  let v6970 : BitVec 32 := v6969
  let v6971 : Index := Scalar.indexCast v6970
  let c1280 : Index := 1280#32
  ![v6971.toNat, 1280]
def k0_off54 (k0_t1 : Fin k0_t1_loop.trips) (c0_i32_1456 : BitVec 32) : Fin 3 → Nat :=
  let c20 : Index := 20#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6969 : BitVec 32 := Scalar.addi v1357 c0_i32_1456
  let v6970 : BitVec 32 := v6969
  let v6974 : Index := Scalar.indexCast v6970
  ![20, 0, v6974.toNat]
def k0_off55 (k0_t1 : Fin k0_t1_loop.trips) (c0_i32_1456 : BitVec 32) : Fin 3 → Nat :=
  let c58 : Index := 58#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6969 : BitVec 32 := Scalar.addi v1357 c0_i32_1456
  let v6970 : BitVec 32 := v6969
  let v6978 : Index := Scalar.indexCast v6970
  ![58, 0, v6978.toNat]
def k0_off56 (k0_t1 : Fin k0_t1_loop.trips) (c0_i32_1456 : BitVec 32) : Fin 3 → Nat :=
  let c21 : Index := 21#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6969 : BitVec 32 := Scalar.addi v1357 c0_i32_1456
  let v6970 : BitVec 32 := v6969
  let v7110 : Index := Scalar.indexCast v6970
  ![21, 0, v7110.toNat]
def k0_off57 (k0_t1 : Fin k0_t1_loop.trips) (c0_i32_1456 : BitVec 32) : Fin 3 → Nat :=
  let c59 : Index := 59#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v6969 : BitVec 32 := Scalar.addi v1357 c0_i32_1456
  let v6970 : BitVec 32 := v6969
  let v7114 : Index := Scalar.indexCast v6970
  ![59, 0, v7114.toNat]
def k0_mult22 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1501 : BitVec 32 := 128#32
  let v7247 : BitVec 32 := Scalar.addi v1357 c128_i32_1501
  v7247
def k0_mult23 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1555 : BitVec 32 := 0#32
  let v7530 : BitVec 32 := Scalar.addi v1357 c0_i32_1555
  v7530
def k0_off58 (k0_t1 : Fin k0_t1_loop.trips) (c0_i32_1555 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v7530 : BitVec 32 := Scalar.addi v1357 c0_i32_1555
  let v7531 : BitVec 32 := v7530
  let v7532 : Index := Scalar.indexCast v7531
  let c1408 : Index := 1408#32
  ![v7532.toNat, 1408]
def k0_off59 (k0_t1 : Fin k0_t1_loop.trips) (c0_i32_1555 : BitVec 32) : Fin 3 → Nat :=
  let c22 : Index := 22#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v7530 : BitVec 32 := Scalar.addi v1357 c0_i32_1555
  let v7531 : BitVec 32 := v7530
  let v7535 : Index := Scalar.indexCast v7531
  ![22, 0, v7535.toNat]
def k0_off60 (k0_t1 : Fin k0_t1_loop.trips) (c0_i32_1555 : BitVec 32) : Fin 3 → Nat :=
  let c60 : Index := 60#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v7530 : BitVec 32 := Scalar.addi v1357 c0_i32_1555
  let v7531 : BitVec 32 := v7530
  let v7539 : Index := Scalar.indexCast v7531
  ![60, 0, v7539.toNat]
def k0_off61 (k0_t1 : Fin k0_t1_loop.trips) (c0_i32_1555 : BitVec 32) : Fin 3 → Nat :=
  let c23 : Index := 23#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v7530 : BitVec 32 := Scalar.addi v1357 c0_i32_1555
  let v7531 : BitVec 32 := v7530
  let v7671 : Index := Scalar.indexCast v7531
  ![23, 0, v7671.toNat]
def k0_off62 (k0_t1 : Fin k0_t1_loop.trips) (c0_i32_1555 : BitVec 32) : Fin 3 → Nat :=
  let c61 : Index := 61#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v7530 : BitVec 32 := Scalar.addi v1357 c0_i32_1555
  let v7531 : BitVec 32 := v7530
  let v7675 : Index := Scalar.indexCast v7531
  ![61, 0, v7675.toNat]
def k0_mult24 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1600 : BitVec 32 := 128#32
  let v7808 : BitVec 32 := Scalar.addi v1357 c128_i32_1600
  v7808
def k0_mult25 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1654 : BitVec 32 := 0#32
  let v8091 : BitVec 32 := Scalar.addi v1357 c0_i32_1654
  v8091
def k0_off63 (k0_t1 : Fin k0_t1_loop.trips) (c0_i32_1654 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8091 : BitVec 32 := Scalar.addi v1357 c0_i32_1654
  let v8092 : BitVec 32 := v8091
  let v8093 : Index := Scalar.indexCast v8092
  let c1536 : Index := 1536#32
  ![v8093.toNat, 1536]
def k0_off64 (k0_t1 : Fin k0_t1_loop.trips) (c0_i32_1654 : BitVec 32) : Fin 3 → Nat :=
  let c24_1655 : Index := 24#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8091 : BitVec 32 := Scalar.addi v1357 c0_i32_1654
  let v8092 : BitVec 32 := v8091
  let v8096 : Index := Scalar.indexCast v8092
  ![24, 0, v8096.toNat]
def k0_off65 (k0_t1 : Fin k0_t1_loop.trips) (c0_i32_1654 : BitVec 32) : Fin 3 → Nat :=
  let c62 : Index := 62#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8091 : BitVec 32 := Scalar.addi v1357 c0_i32_1654
  let v8092 : BitVec 32 := v8091
  let v8100 : Index := Scalar.indexCast v8092
  ![62, 0, v8100.toNat]
def k0_off66 (k0_t1 : Fin k0_t1_loop.trips) (c0_i32_1654 : BitVec 32) : Fin 3 → Nat :=
  let c25 : Index := 25#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8091 : BitVec 32 := Scalar.addi v1357 c0_i32_1654
  let v8092 : BitVec 32 := v8091
  let v8232 : Index := Scalar.indexCast v8092
  ![25, 0, v8232.toNat]
def k0_off67 (k0_t1 : Fin k0_t1_loop.trips) (c0_i32_1654 : BitVec 32) : Fin 3 → Nat :=
  let c63 : Index := 63#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8091 : BitVec 32 := Scalar.addi v1357 c0_i32_1654
  let v8092 : BitVec 32 := v8091
  let v8236 : Index := Scalar.indexCast v8092
  ![63, 0, v8236.toNat]
def k0_mult26 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1700 : BitVec 32 := 128#32
  let v8369 : BitVec 32 := Scalar.addi v1357 c128_i32_1700
  v8369
def k0_mult27 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1754 : BitVec 32 := 0#32
  let v8652 : BitVec 32 := Scalar.addi v1357 c0_i32_1754
  v8652
def k0_off68 (k0_t1 : Fin k0_t1_loop.trips) (c0_i32_1754 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8652 : BitVec 32 := Scalar.addi v1357 c0_i32_1754
  let v8653 : BitVec 32 := v8652
  let v8654 : Index := Scalar.indexCast v8653
  let c1664 : Index := 1664#32
  ![v8654.toNat, 1664]
def k0_off69 (k0_t1 : Fin k0_t1_loop.trips) (c0_i32_1754 : BitVec 32) : Fin 3 → Nat :=
  let c26 : Index := 26#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8652 : BitVec 32 := Scalar.addi v1357 c0_i32_1754
  let v8653 : BitVec 32 := v8652
  let v8657 : Index := Scalar.indexCast v8653
  ![26, 0, v8657.toNat]
def k0_off70 (k0_t1 : Fin k0_t1_loop.trips) (c0_i32_1754 : BitVec 32) : Fin 3 → Nat :=
  let c64_1755 : Index := 64#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8652 : BitVec 32 := Scalar.addi v1357 c0_i32_1754
  let v8653 : BitVec 32 := v8652
  let v8661 : Index := Scalar.indexCast v8653
  ![64, 0, v8661.toNat]
def k0_off71 (k0_t1 : Fin k0_t1_loop.trips) (c0_i32_1754 : BitVec 32) : Fin 3 → Nat :=
  let c27 : Index := 27#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8652 : BitVec 32 := Scalar.addi v1357 c0_i32_1754
  let v8653 : BitVec 32 := v8652
  let v8793 : Index := Scalar.indexCast v8653
  ![27, 0, v8793.toNat]
def k0_off72 (k0_t1 : Fin k0_t1_loop.trips) (c0_i32_1754 : BitVec 32) : Fin 3 → Nat :=
  let c65 : Index := 65#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v8652 : BitVec 32 := Scalar.addi v1357 c0_i32_1754
  let v8653 : BitVec 32 := v8652
  let v8797 : Index := Scalar.indexCast v8653
  ![65, 0, v8797.toNat]
def k0_mult28 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1800 : BitVec 32 := 128#32
  let v8930 : BitVec 32 := Scalar.addi v1357 c128_i32_1800
  v8930
def k0_mult29 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1854 : BitVec 32 := 0#32
  let v9213 : BitVec 32 := Scalar.addi v1357 c0_i32_1854
  v9213
def k0_off73 (k0_t1 : Fin k0_t1_loop.trips) (c0_i32_1854 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9213 : BitVec 32 := Scalar.addi v1357 c0_i32_1854
  let v9214 : BitVec 32 := v9213
  let v9215 : Index := Scalar.indexCast v9214
  let c1792 : Index := 1792#32
  ![v9215.toNat, 1792]
def k0_off74 (k0_t1 : Fin k0_t1_loop.trips) (c0_i32_1854 : BitVec 32) : Fin 3 → Nat :=
  let c28 : Index := 28#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9213 : BitVec 32 := Scalar.addi v1357 c0_i32_1854
  let v9214 : BitVec 32 := v9213
  let v9218 : Index := Scalar.indexCast v9214
  ![28, 0, v9218.toNat]
def k0_off75 (k0_t1 : Fin k0_t1_loop.trips) (c0_i32_1854 : BitVec 32) : Fin 3 → Nat :=
  let c66 : Index := 66#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9213 : BitVec 32 := Scalar.addi v1357 c0_i32_1854
  let v9214 : BitVec 32 := v9213
  let v9222 : Index := Scalar.indexCast v9214
  ![66, 0, v9222.toNat]
def k0_off76 (k0_t1 : Fin k0_t1_loop.trips) (c0_i32_1854 : BitVec 32) : Fin 3 → Nat :=
  let c29 : Index := 29#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9213 : BitVec 32 := Scalar.addi v1357 c0_i32_1854
  let v9214 : BitVec 32 := v9213
  let v9354 : Index := Scalar.indexCast v9214
  ![29, 0, v9354.toNat]
def k0_off77 (k0_t1 : Fin k0_t1_loop.trips) (c0_i32_1854 : BitVec 32) : Fin 3 → Nat :=
  let c67 : Index := 67#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9213 : BitVec 32 := Scalar.addi v1357 c0_i32_1854
  let v9214 : BitVec 32 := v9213
  let v9358 : Index := Scalar.indexCast v9214
  ![67, 0, v9358.toNat]
def k0_mult30 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1899 : BitVec 32 := 128#32
  let v9491 : BitVec 32 := Scalar.addi v1357 c128_i32_1899
  v9491
def k0_mult31 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_1953 : BitVec 32 := 0#32
  let v9774 : BitVec 32 := Scalar.addi v1357 c0_i32_1953
  v9774
def k0_off78 (k0_t1 : Fin k0_t1_loop.trips) (c0_i32_1953 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9774 : BitVec 32 := Scalar.addi v1357 c0_i32_1953
  let v9775 : BitVec 32 := v9774
  let v9776 : Index := Scalar.indexCast v9775
  let c1920 : Index := 1920#32
  ![v9776.toNat, 1920]
def k0_off79 (k0_t1 : Fin k0_t1_loop.trips) (c0_i32_1953 : BitVec 32) : Fin 3 → Nat :=
  let c30 : Index := 30#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9774 : BitVec 32 := Scalar.addi v1357 c0_i32_1953
  let v9775 : BitVec 32 := v9774
  let v9779 : Index := Scalar.indexCast v9775
  ![30, 0, v9779.toNat]
def k0_off80 (k0_t1 : Fin k0_t1_loop.trips) (c0_i32_1953 : BitVec 32) : Fin 3 → Nat :=
  let c68 : Index := 68#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9774 : BitVec 32 := Scalar.addi v1357 c0_i32_1953
  let v9775 : BitVec 32 := v9774
  let v9783 : Index := Scalar.indexCast v9775
  ![68, 0, v9783.toNat]
def k0_off81 (k0_t1 : Fin k0_t1_loop.trips) (c0_i32_1953 : BitVec 32) : Fin 3 → Nat :=
  let c31 : Index := 31#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9774 : BitVec 32 := Scalar.addi v1357 c0_i32_1953
  let v9775 : BitVec 32 := v9774
  let v9915 : Index := Scalar.indexCast v9775
  ![31, 0, v9915.toNat]
def k0_off82 (k0_t1 : Fin k0_t1_loop.trips) (c0_i32_1953 : BitVec 32) : Fin 3 → Nat :=
  let c69 : Index := 69#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v9774 : BitVec 32 := Scalar.addi v1357 c0_i32_1953
  let v9775 : BitVec 32 := v9774
  let v9919 : Index := Scalar.indexCast v9775
  ![69, 0, v9919.toNat]
def k0_mult32 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_1998 : BitVec 32 := 128#32
  let v10052 : BitVec 32 := Scalar.addi v1357 c128_i32_1998
  v10052
def k0_mult33 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_2052 : BitVec 32 := 0#32
  let v10335 : BitVec 32 := Scalar.addi v1357 c0_i32_2052
  v10335
def k0_off83 (k0_t1 : Fin k0_t1_loop.trips) (c0_i32_2052 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10335 : BitVec 32 := Scalar.addi v1357 c0_i32_2052
  let v10336 : BitVec 32 := v10335
  let v10337 : Index := Scalar.indexCast v10336
  let c2048 : Index := 2048#32
  ![v10337.toNat, 2048]
def k0_off84 (k0_t1 : Fin k0_t1_loop.trips) (c0_i32_2052 : BitVec 32) : Fin 3 → Nat :=
  let c32_2053 : Index := 32#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10335 : BitVec 32 := Scalar.addi v1357 c0_i32_2052
  let v10336 : BitVec 32 := v10335
  let v10340 : Index := Scalar.indexCast v10336
  ![32, 0, v10340.toNat]
def k0_off85 (k0_t1 : Fin k0_t1_loop.trips) (c0_i32_2052 : BitVec 32) : Fin 3 → Nat :=
  let c70 : Index := 70#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10335 : BitVec 32 := Scalar.addi v1357 c0_i32_2052
  let v10336 : BitVec 32 := v10335
  let v10344 : Index := Scalar.indexCast v10336
  ![70, 0, v10344.toNat]
def k0_off86 (k0_t1 : Fin k0_t1_loop.trips) (c0_i32_2052 : BitVec 32) : Fin 3 → Nat :=
  let c33 : Index := 33#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10335 : BitVec 32 := Scalar.addi v1357 c0_i32_2052
  let v10336 : BitVec 32 := v10335
  let v10476 : Index := Scalar.indexCast v10336
  ![33, 0, v10476.toNat]
def k0_off87 (k0_t1 : Fin k0_t1_loop.trips) (c0_i32_2052 : BitVec 32) : Fin 3 → Nat :=
  let c71 : Index := 71#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10335 : BitVec 32 := Scalar.addi v1357 c0_i32_2052
  let v10336 : BitVec 32 := v10335
  let v10480 : Index := Scalar.indexCast v10336
  ![71, 0, v10480.toNat]
def k0_mult34 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_2098 : BitVec 32 := 128#32
  let v10613 : BitVec 32 := Scalar.addi v1357 c128_i32_2098
  v10613
def k0_mult35 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_2152 : BitVec 32 := 0#32
  let v10896 : BitVec 32 := Scalar.addi v1357 c0_i32_2152
  v10896
def k0_off88 (k0_t1 : Fin k0_t1_loop.trips) (c0_i32_2152 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10896 : BitVec 32 := Scalar.addi v1357 c0_i32_2152
  let v10897 : BitVec 32 := v10896
  let v10898 : Index := Scalar.indexCast v10897
  let c2176 : Index := 2176#32
  ![v10898.toNat, 2176]
def k0_off89 (k0_t1 : Fin k0_t1_loop.trips) (c0_i32_2152 : BitVec 32) : Fin 3 → Nat :=
  let c34 : Index := 34#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10896 : BitVec 32 := Scalar.addi v1357 c0_i32_2152
  let v10897 : BitVec 32 := v10896
  let v10901 : Index := Scalar.indexCast v10897
  ![34, 0, v10901.toNat]
def k0_off90 (k0_t1 : Fin k0_t1_loop.trips) (c0_i32_2152 : BitVec 32) : Fin 3 → Nat :=
  let c72_2153 : Index := 72#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10896 : BitVec 32 := Scalar.addi v1357 c0_i32_2152
  let v10897 : BitVec 32 := v10896
  let v10905 : Index := Scalar.indexCast v10897
  ![72, 0, v10905.toNat]
def k0_off91 (k0_t1 : Fin k0_t1_loop.trips) (c0_i32_2152 : BitVec 32) : Fin 3 → Nat :=
  let c35 : Index := 35#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10896 : BitVec 32 := Scalar.addi v1357 c0_i32_2152
  let v10897 : BitVec 32 := v10896
  let v11037 : Index := Scalar.indexCast v10897
  ![35, 0, v11037.toNat]
def k0_off92 (k0_t1 : Fin k0_t1_loop.trips) (c0_i32_2152 : BitVec 32) : Fin 3 → Nat :=
  let c73 : Index := 73#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v10896 : BitVec 32 := Scalar.addi v1357 c0_i32_2152
  let v10897 : BitVec 32 := v10896
  let v11041 : Index := Scalar.indexCast v10897
  ![73, 0, v11041.toNat]
def k0_mult36 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_2198 : BitVec 32 := 128#32
  let v11174 : BitVec 32 := Scalar.addi v1357 c128_i32_2198
  v11174
def k0_mult37 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c0_i32_2252 : BitVec 32 := 0#32
  let v11457 : BitVec 32 := Scalar.addi v1357 c0_i32_2252
  v11457
def k0_off93 (k0_t1 : Fin k0_t1_loop.trips) (c0_i32_2252 : BitVec 32) : Fin 2 → Nat :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v11457 : BitVec 32 := Scalar.addi v1357 c0_i32_2252
  let v11458 : BitVec 32 := v11457
  let v11459 : Index := Scalar.indexCast v11458
  let c2304 : Index := 2304#32
  ![v11459.toNat, 2304]
def k0_off94 (k0_t1 : Fin k0_t1_loop.trips) (c0_i32_2252 : BitVec 32) : Fin 3 → Nat :=
  let c36 : Index := 36#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v11457 : BitVec 32 := Scalar.addi v1357 c0_i32_2252
  let v11458 : BitVec 32 := v11457
  let v11462 : Index := Scalar.indexCast v11458
  ![36, 0, v11462.toNat]
def k0_off95 (k0_t1 : Fin k0_t1_loop.trips) (c0_i32_2252 : BitVec 32) : Fin 3 → Nat :=
  let c74 : Index := 74#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v11457 : BitVec 32 := Scalar.addi v1357 c0_i32_2252
  let v11458 : BitVec 32 := v11457
  let v11466 : Index := Scalar.indexCast v11458
  ![74, 0, v11466.toNat]
def k0_off96 (k0_t1 : Fin k0_t1_loop.trips) (c0_i32_2252 : BitVec 32) : Fin 3 → Nat :=
  let c37 : Index := 37#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v11457 : BitVec 32 := Scalar.addi v1357 c0_i32_2252
  let v11458 : BitVec 32 := v11457
  let v11598 : Index := Scalar.indexCast v11458
  ![37, 0, v11598.toNat]
def k0_off97 (k0_t1 : Fin k0_t1_loop.trips) (c0_i32_2252 : BitVec 32) : Fin 3 → Nat :=
  let c75 : Index := 75#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v11457 : BitVec 32 := Scalar.addi v1357 c0_i32_2252
  let v11458 : BitVec 32 := v11457
  let v11602 : Index := Scalar.indexCast v11458
  ![75, 0, v11602.toNat]
def k0_mult38 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let c128_i32_2297 : BitVec 32 := 128#32
  let v11735 : BitVec 32 := Scalar.addi v1357 c128_i32_2297
  v11735
def k0_mult39 (k0_t1 : Fin k0_t1_loop.trips) : BitVec 32 :=
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  v1357
def k0_off98 (k0_t1 : Fin k0_t1_loop.trips) : Fin 2 → Nat :=
  let c0_2351 : Index := 0#32
  let c0_i32_451 : BitVec 32 := 0#32
  let c1_i32_453 : BitVec 32 := 1#32
  let arg10 : BitVec 32 := Scf.iv c0_i32_451 c1_i32_453 k0_t1
  let c256_i32_455 : BitVec 32 := 256#32
  let v1357 : BitVec 32 := Scalar.muli arg10 c256_i32_455
  let v12019 : BitVec 32 := v1357
  let v12020 : Index := Scalar.indexCast v12019
  ![0, v12020.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x4864 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x2432 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S76x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S75x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S48x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S48x1x4864 : Shape := ⟨3, ![48, 1, 4864]⟩
abbrev S31488x2432 : Shape := ⟨2, ![31488, 2432]⟩
abbrev S31488x76 : Shape := ⟨2, ![31488, 76]⟩
abbrev S9348 : Shape := ⟨1, ![9348]⟩
abbrev S_ : Shape := ⟨0, ![]⟩
abbrev S16 : Shape := ⟨1, ![16]⟩
abbrev S9348x256 : Shape := ⟨2, ![9348, 256]⟩
abbrev S9348x1 : Shape := ⟨2, ![9348, 1]⟩
abbrev S31488x38 : Shape := ⟨2, ![31488, 38]⟩
abbrev S1 : Shape := ⟨1, ![1]⟩
abbrev S31488x38x64 : Shape := ⟨3, ![31488, 38, 64]⟩
abbrev S31488x38x1 : Shape := ⟨3, ![31488, 38, 1]⟩
abbrev S48x4864 : Shape := ⟨2, ![48, 4864]⟩
abbrev S48x2432 : Shape := ⟨2, ![48, 2432]⟩
abbrev S48x31488 : Shape := ⟨2, ![48, 31488]⟩

abbrev nBuf : Space → Nat
  | .hbm => 249
  | .vmem => 0
  | .smem => 0
  | _ => 0

abbrev hbmTy0_0 (i : Nat) : BufTy := match i % 128 with
  | 0 => ⟨S48x1x4864, .bf16⟩
  | 1 => ⟨S31488x2432, .i8⟩
  | 2 => ⟨S31488x76, .i8⟩
  | 3 => ⟨S9348, .f32⟩
  | 4 => ⟨S_, .f32⟩
  | 5 => ⟨S16, .bf16⟩
  | 6 => ⟨S16, .bf16⟩
  | 7 => ⟨S9348x256, .i8⟩
  | 8 => ⟨S9348x256, .i32⟩
  | 9 => ⟨S9348x256, .f32⟩
  | 10 => ⟨S9348x1, .f32⟩
  | 11 => ⟨S9348x256, .f32⟩
  | 12 => ⟨S9348x256, .f32⟩
  | 13 => ⟨S9348x256, .f32⟩
  | 14 => ⟨S9348x256, .f32⟩
  | 15 => ⟨S31488x76, .f32⟩
  | 16 => ⟨S31488x76, .bf16⟩
  | 17 => ⟨S31488x2432, .i32⟩
  | 18 => ⟨S_, .i32⟩
  | 19 => ⟨S31488x2432, .i32⟩
  | 20 => ⟨S31488x2432, .i32⟩
  | 21 => ⟨S31488x38, .bf16⟩
  | 22 => ⟨S_, .i32⟩
  | 23 => ⟨S31488x2432, .i32⟩
  | 24 => ⟨S31488x2432, .i32⟩
  | 25 => ⟨S_, .i32⟩
  | 26 => ⟨S31488x2432, .i32⟩
  | 27 => ⟨S31488x2432, .i32⟩
  | 28 => ⟨S_, .i32⟩
  | 29 => ⟨S31488x2432, .i32⟩
  | 30 => ⟨S31488x2432, .i1⟩
  | 31 => ⟨S31488x2432, .i1⟩
  | 32 => ⟨S_, .i32⟩
  | 33 => ⟨S31488x2432, .i32⟩
  | 34 => ⟨S31488x2432, .i32⟩
  | 35 => ⟨S_, .i32⟩
  | 36 => ⟨S31488x2432, .i32⟩
  | 37 => ⟨S31488x2432, .i32⟩
  | 38 => ⟨S_, .i32⟩
  | 39 => ⟨S31488x2432, .i32⟩
  | 40 => ⟨S31488x2432, .i1⟩
  | 41 => ⟨S31488x2432, .i1⟩
  | 42 => ⟨S_, .i32⟩
  | 43 => ⟨S31488x2432, .i32⟩
  | 44 => ⟨S31488x2432, .i32⟩
  | 45 => ⟨S_, .i32⟩
  | 46 => ⟨S31488x2432, .i32⟩
  | 47 => ⟨S31488x2432, .i32⟩
  | 48 => ⟨S_, .i32⟩
  | 49 => ⟨S31488x2432, .i32⟩
  | 50 => ⟨S31488x2432, .i1⟩
  | 51 => ⟨S31488x2432, .i1⟩
  | 52 => ⟨S_, .i32⟩
  | 53 => ⟨S31488x2432, .i32⟩
  | 54 => ⟨S31488x2432, .i32⟩
  | 55 => ⟨S_, .i32⟩
  | 56 => ⟨S31488x2432, .i32⟩
  | 57 => ⟨S31488x2432, .i32⟩
  | 58 => ⟨S_, .i32⟩
  | 59 => ⟨S31488x2432, .i32⟩
  | 60 => ⟨S31488x2432, .i1⟩
  | 61 => ⟨S31488x2432, .i1⟩
  | 62 => ⟨S1, .bf16⟩
  | 63 => ⟨S_, .bf16⟩
  | 64 => ⟨S1, .bf16⟩
  | 65 => ⟨S_, .bf16⟩
  | 66 => ⟨S31488x2432, .bf16⟩
  | 67 => ⟨S31488x2432, .bf16⟩
  | 68 => ⟨S31488x2432, .bf16⟩
  | 69 => ⟨S1, .bf16⟩
  | 70 => ⟨S_, .bf16⟩
  | 71 => ⟨S1, .bf16⟩
  | 72 => ⟨S_, .bf16⟩
  | 73 => ⟨S31488x2432, .bf16⟩
  | 74 => ⟨S31488x2432, .bf16⟩
  | 75 => ⟨S31488x2432, .bf16⟩
  | 76 => ⟨S31488x2432, .bf16⟩
  | 77 => ⟨S1, .bf16⟩
  | 78 => ⟨S_, .bf16⟩
  | 79 => ⟨S1, .bf16⟩
  | 80 => ⟨S_, .bf16⟩
  | 81 => ⟨S31488x2432, .bf16⟩
  | 82 => ⟨S31488x2432, .bf16⟩
  | 83 => ⟨S31488x2432, .bf16⟩
  | 84 => ⟨S1, .bf16⟩
  | 85 => ⟨S_, .bf16⟩
  | 86 => ⟨S1, .bf16⟩
  | 87 => ⟨S_, .bf16⟩
  | 88 => ⟨S31488x2432, .bf16⟩
  | 89 => ⟨S31488x2432, .bf16⟩
  | 90 => ⟨S31488x2432, .bf16⟩
  | 91 => ⟨S31488x2432, .bf16⟩
  | 92 => ⟨S31488x2432, .bf16⟩
  | 93 => ⟨S1, .bf16⟩
  | 94 => ⟨S_, .bf16⟩
  | 95 => ⟨S1, .bf16⟩
  | 96 => ⟨S_, .bf16⟩
  | 97 => ⟨S31488x2432, .bf16⟩
  | 98 => ⟨S31488x2432, .bf16⟩
  | 99 => ⟨S31488x2432, .bf16⟩
  | 100 => ⟨S1, .bf16⟩
  | 101 => ⟨S_, .bf16⟩
  | 102 => ⟨S1, .bf16⟩
  | 103 => ⟨S_, .bf16⟩
  | 104 => ⟨S31488x2432, .bf16⟩
  | 105 => ⟨S31488x2432, .bf16⟩
  | 106 => ⟨S31488x2432, .bf16⟩
  | 107 => ⟨S31488x2432, .bf16⟩
  | 108 => ⟨S1, .bf16⟩
  | 109 => ⟨S_, .bf16⟩
  | 110 => ⟨S1, .bf16⟩
  | 111 => ⟨S_, .bf16⟩
  | 112 => ⟨S31488x2432, .bf16⟩
  | 113 => ⟨S31488x2432, .bf16⟩
  | 114 => ⟨S31488x2432, .bf16⟩
  | 115 => ⟨S1, .bf16⟩
  | 116 => ⟨S_, .bf16⟩
  | 117 => ⟨S1, .bf16⟩
  | 118 => ⟨S_, .bf16⟩
  | 119 => ⟨S31488x2432, .bf16⟩
  | 120 => ⟨S31488x2432, .bf16⟩
  | 121 => ⟨S31488x2432, .bf16⟩
  | 122 => ⟨S31488x2432, .bf16⟩
  | 123 => ⟨S31488x2432, .bf16⟩
  | 124 => ⟨S31488x2432, .bf16⟩
  | 125 => ⟨S31488x38x64, .bf16⟩
  | 126 => ⟨S31488x38x1, .bf16⟩
  | 127 => ⟨S31488x38x64, .bf16⟩
  | _ => ⟨S48x1x4864, .bf16⟩

abbrev hbmTy0_1 (i : Nat) : BufTy := match i % 128 with
  | 0 => ⟨S31488x38x64, .bf16⟩
  | 1 => ⟨S31488x2432, .bf16⟩
  | 2 => ⟨S_, .i32⟩
  | 3 => ⟨S31488x2432, .i32⟩
  | 4 => ⟨S31488x2432, .i32⟩
  | 5 => ⟨S31488x38, .bf16⟩
  | 6 => ⟨S_, .i32⟩
  | 7 => ⟨S31488x2432, .i32⟩
  | 8 => ⟨S31488x2432, .i32⟩
  | 9 => ⟨S_, .i32⟩
  | 10 => ⟨S31488x2432, .i32⟩
  | 11 => ⟨S31488x2432, .i32⟩
  | 12 => ⟨S_, .i32⟩
  | 13 => ⟨S31488x2432, .i32⟩
  | 14 => ⟨S31488x2432, .i1⟩
  | 15 => ⟨S31488x2432, .i1⟩
  | 16 => ⟨S_, .i32⟩
  | 17 => ⟨S31488x2432, .i32⟩
  | 18 => ⟨S31488x2432, .i32⟩
  | 19 => ⟨S_, .i32⟩
  | 20 => ⟨S31488x2432, .i32⟩
  | 21 => ⟨S31488x2432, .i32⟩
  | 22 => ⟨S_, .i32⟩
  | 23 => ⟨S31488x2432, .i32⟩
  | 24 => ⟨S31488x2432, .i1⟩
  | 25 => ⟨S31488x2432, .i1⟩
  | 26 => ⟨S_, .i32⟩
  | 27 => ⟨S31488x2432, .i32⟩
  | 28 => ⟨S31488x2432, .i32⟩
  | 29 => ⟨S_, .i32⟩
  | 30 => ⟨S31488x2432, .i32⟩
  | 31 => ⟨S31488x2432, .i32⟩
  | 32 => ⟨S_, .i32⟩
  | 33 => ⟨S31488x2432, .i32⟩
  | 34 => ⟨S31488x2432, .i1⟩
  | 35 => ⟨S31488x2432, .i1⟩
  | 36 => ⟨S_, .i32⟩
  | 37 => ⟨S31488x2432, .i32⟩
  | 38 => ⟨S31488x2432, .i32⟩
  | 39 => ⟨S_, .i32⟩
  | 40 => ⟨S31488x2432, .i32⟩
  | 41 => ⟨S31488x2432, .i32⟩
  | 42 => ⟨S_, .i32⟩
  | 43 => ⟨S31488x2432, .i32⟩
  | 44 => ⟨S31488x2432, .i1⟩
  | 45 => ⟨S31488x2432, .i1⟩
  | 46 => ⟨S1, .bf16⟩
  | 47 => ⟨S_, .bf16⟩
  | 48 => ⟨S1, .bf16⟩
  | 49 => ⟨S_, .bf16⟩
  | 50 => ⟨S31488x2432, .bf16⟩
  | 51 => ⟨S31488x2432, .bf16⟩
  | 52 => ⟨S31488x2432, .bf16⟩
  | 53 => ⟨S1, .bf16⟩
  | 54 => ⟨S_, .bf16⟩
  | 55 => ⟨S1, .bf16⟩
  | 56 => ⟨S_, .bf16⟩
  | 57 => ⟨S31488x2432, .bf16⟩
  | 58 => ⟨S31488x2432, .bf16⟩
  | 59 => ⟨S31488x2432, .bf16⟩
  | 60 => ⟨S31488x2432, .bf16⟩
  | 61 => ⟨S1, .bf16⟩
  | 62 => ⟨S_, .bf16⟩
  | 63 => ⟨S1, .bf16⟩
  | 64 => ⟨S_, .bf16⟩
  | 65 => ⟨S31488x2432, .bf16⟩
  | 66 => ⟨S31488x2432, .bf16⟩
  | 67 => ⟨S31488x2432, .bf16⟩
  | 68 => ⟨S1, .bf16⟩
  | 69 => ⟨S_, .bf16⟩
  | 70 => ⟨S1, .bf16⟩
  | 71 => ⟨S_, .bf16⟩
  | 72 => ⟨S31488x2432, .bf16⟩
  | 73 => ⟨S31488x2432, .bf16⟩
  | 74 => ⟨S31488x2432, .bf16⟩
  | 75 => ⟨S31488x2432, .bf16⟩
  | 76 => ⟨S31488x2432, .bf16⟩
  | 77 => ⟨S1, .bf16⟩
  | 78 => ⟨S_, .bf16⟩
  | 79 => ⟨S1, .bf16⟩
  | 80 => ⟨S_, .bf16⟩
  | 81 => ⟨S31488x2432, .bf16⟩
  | 82 => ⟨S31488x2432, .bf16⟩
  | 83 => ⟨S31488x2432, .bf16⟩
  | 84 => ⟨S1, .bf16⟩
  | 85 => ⟨S_, .bf16⟩
  | 86 => ⟨S1, .bf16⟩
  | 87 => ⟨S_, .bf16⟩
  | 88 => ⟨S31488x2432, .bf16⟩
  | 89 => ⟨S31488x2432, .bf16⟩
  | 90 => ⟨S31488x2432, .bf16⟩
  | 91 => ⟨S31488x2432, .bf16⟩
  | 92 => ⟨S1, .bf16⟩
  | 93 => ⟨S_, .bf16⟩
  | 94 => ⟨S1, .bf16⟩
  | 95 => ⟨S_, .bf16⟩
  | 96 => ⟨S31488x2432, .bf16⟩
  | 97 => ⟨S31488x2432, .bf16⟩
  | 98 => ⟨S31488x2432, .bf16⟩
  | 99 => ⟨S1, .bf16⟩
  | 100 => ⟨S_, .bf16⟩
  | 101 => ⟨S1, .bf16⟩
  | 102 => ⟨S_, .bf16⟩
  | 103 => ⟨S31488x2432, .bf16⟩
  | 104 => ⟨S31488x2432, .bf16⟩
  | 105 => ⟨S31488x2432, .bf16⟩
  | 106 => ⟨S31488x2432, .bf16⟩
  | 107 => ⟨S31488x2432, .bf16⟩
  | 108 => ⟨S31488x2432, .bf16⟩
  | 109 => ⟨S31488x38x64, .bf16⟩
  | 110 => ⟨S31488x38x1, .bf16⟩
  | 111 => ⟨S31488x38x64, .bf16⟩
  | 112 => ⟨S31488x38x64, .bf16⟩
  | 113 => ⟨S31488x2432, .bf16⟩
  | 114 => ⟨S48x4864, .bf16⟩
  | 115 => ⟨S48x2432, .bf16⟩
  | 116 => ⟨S48x31488, .f32⟩
  | 117 => ⟨S48x2432, .bf16⟩
  | 118 => ⟨S48x31488, .f32⟩
  | 119 => ⟨S48x31488, .f32⟩
  | 120 => ⟨S48x31488, .bf16⟩
  | _ => ⟨S48x1x4864, .bf16⟩

abbrev hbmTy (i : Nat) : BufTy := match i / 128 with
  | 0 => hbmTy0_0 i
  | 1 => hbmTy0_1 i
  | _ => ⟨S48x1x4864, .bf16⟩

abbrev bufTy : (tb : Table) → Fin (tcTables nBuf tb) → BufTy
  | .hbm, ⟨i, _⟩ => hbmTy i
  | _, _ => ⟨S48x1x4864, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_c_8 : Ref sig .tc := ⟨.hbm, 45, rfl⟩
abbrev main_v30 : Ref sig .tc := ⟨.hbm, 46, rfl⟩
abbrev main_v31 : Ref sig .tc := ⟨.hbm, 47, rfl⟩
abbrev main_c_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_10 : Ref sig .tc := ⟨.hbm, 52, rfl⟩
abbrev main_v35 : Ref sig .tc := ⟨.hbm, 53, rfl⟩
abbrev main_v36 : Ref sig .tc := ⟨.hbm, 54, rfl⟩
abbrev main_c_11 : Ref sig .tc := ⟨.hbm, 55, rfl⟩
abbrev main_v37 : Ref sig .tc := ⟨.hbm, 56, rfl⟩
abbrev main_v38 : Ref sig .tc := ⟨.hbm, 57, rfl⟩
abbrev main_c_12 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_v0 : Ref sig .tc := ⟨.hbm, 66, rfl⟩
abbrev main_call0_v1 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_v0 : Ref sig .tc := ⟨.hbm, 73, rfl⟩
abbrev main_call1_v1 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call3_v0 : Ref sig .tc := ⟨.hbm, 81, rfl⟩
abbrev main_call3_v1 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call4_v0 : Ref sig .tc := ⟨.hbm, 88, rfl⟩
abbrev main_call4_v1 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call7_v0 : Ref sig .tc := ⟨.hbm, 97, rfl⟩
abbrev main_call7_v1 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_call8_v0 : Ref sig .tc := ⟨.hbm, 104, rfl⟩
abbrev main_call8_v1 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call10_v0 : Ref sig .tc := ⟨.hbm, 112, rfl⟩
abbrev main_call10_v1 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call11_v0 : Ref sig .tc := ⟨.hbm, 119, rfl⟩
abbrev main_call11_v1 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_c_13 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_14 : Ref sig .tc := ⟨.hbm, 134, rfl⟩
abbrev main_v97 : Ref sig .tc := ⟨.hbm, 135, rfl⟩
abbrev main_v98 : Ref sig .tc := ⟨.hbm, 136, rfl⟩
abbrev main_c_15 : Ref sig .tc := ⟨.hbm, 137, rfl⟩
abbrev main_v99 : Ref sig .tc := ⟨.hbm, 138, rfl⟩
abbrev main_v100 : Ref sig .tc := ⟨.hbm, 139, rfl⟩
abbrev main_c_16 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_17 : Ref sig .tc := ⟨.hbm, 144, rfl⟩
abbrev main_v104 : Ref sig .tc := ⟨.hbm, 145, rfl⟩
abbrev main_v105 : Ref sig .tc := ⟨.hbm, 146, rfl⟩
abbrev main_c_18 : Ref sig .tc := ⟨.hbm, 147, rfl⟩
abbrev main_v106 : Ref sig .tc := ⟨.hbm, 148, rfl⟩
abbrev main_v107 : Ref sig .tc := ⟨.hbm, 149, rfl⟩
abbrev main_c_19 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_c_20 : Ref sig .tc := ⟨.hbm, 154, rfl⟩
abbrev main_v111 : Ref sig .tc := ⟨.hbm, 155, rfl⟩
abbrev main_v112 : Ref sig .tc := ⟨.hbm, 156, rfl⟩
abbrev main_c_21 : Ref sig .tc := ⟨.hbm, 157, rfl⟩
abbrev main_v113 : Ref sig .tc := ⟨.hbm, 158, rfl⟩
abbrev main_v114 : Ref sig .tc := ⟨.hbm, 159, rfl⟩
abbrev main_c_22 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_c_23 : Ref sig .tc := ⟨.hbm, 164, rfl⟩
abbrev main_v118 : Ref sig .tc := ⟨.hbm, 165, rfl⟩
abbrev main_v119 : Ref sig .tc := ⟨.hbm, 166, rfl⟩
abbrev main_c_24 : Ref sig .tc := ⟨.hbm, 167, rfl⟩
abbrev main_v120 : Ref sig .tc := ⟨.hbm, 168, rfl⟩
abbrev main_v121 : Ref sig .tc := ⟨.hbm, 169, rfl⟩
abbrev main_c_25 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_call15_v0 : Ref sig .tc := ⟨.hbm, 178, rfl⟩
abbrev main_call15_v1 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_call16_v0 : Ref sig .tc := ⟨.hbm, 185, rfl⟩
abbrev main_call16_v1 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_call18_v0 : Ref sig .tc := ⟨.hbm, 193, rfl⟩
abbrev main_call18_v1 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_call19_v0 : Ref sig .tc := ⟨.hbm, 200, rfl⟩
abbrev main_call19_v1 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_call22_v0 : Ref sig .tc := ⟨.hbm, 209, rfl⟩
abbrev main_call22_v1 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_call23_v0 : Ref sig .tc := ⟨.hbm, 216, rfl⟩
abbrev main_call23_v1 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_call25_v0 : Ref sig .tc := ⟨.hbm, 224, rfl⟩
abbrev main_call25_v1 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_call26_v0 : Ref sig .tc := ⟨.hbm, 231, rfl⟩
abbrev main_call26_v1 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩

abbrev nD : Nat := 1
abbrev τ : Topo := Topo.v7x

variable {F : FTy → Type} [FloatOps F]
-- ==== Proof.Kernel.Setup.lean ====
/-
The rows of the scale scratch that a grid point reads, in closed form.

Point `i` covers 768 output features, in six lane tiles of 128. Tile `r` of the point starts at scale
group `38 * (6 * i + r)`, which lies in row `38 * (6 * i + r) / 128` of the `75 × 128` scratch; the
kernel reads that row and the next.
-/
module

public import proofs.«01_k».proof.Proof.Gen.Kernel.Frame
public import proofs.«01_k».proof.Proof.Gen.Kernel.Loops
public import Idealize.ShloMosaic.Lib.Claim

@[expose] public section
noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

/-- The first row that lane tile `r` of point `i` reads. -/
theorem k0_off1_eq : ∀ (i : grid0.Coords) (r : Fin 6),
    k0_off1 i (BitVec.ofNat 32 r.val) = ![((i 0).val * 6 + r.val) * 38 / 128, 0] := by decide +kernel

/-- The second row is the next one. -/
theorem k0_off2_eq : ∀ (i : grid0.Coords) (r : Fin 6),
    k0_off2 i (BitVec.ofNat 32 r.val) = ![((i 0).val * 6 + r.val) * 38 / 128 + 1, 0] := by decide +kernel

instance (i : grid0.Coords) : ClosedOff (k0_off1 i 0#32) := ⟨_, k0_off1_eq i 0⟩
instance (i : grid0.Coords) : ClosedOff (k0_off1 i 1#32) := ⟨_, k0_off1_eq i 1⟩
instance (i : grid0.Coords) : ClosedOff (k0_off1 i 2#32) := ⟨_, k0_off1_eq i 2⟩
instance (i : grid0.Coords) : ClosedOff (k0_off1 i 3#32) := ⟨_, k0_off1_eq i 3⟩
instance (i : grid0.Coords) : ClosedOff (k0_off1 i 4#32) := ⟨_, k0_off1_eq i 4⟩
instance (i : grid0.Coords) : ClosedOff (k0_off1 i 5#32) := ⟨_, k0_off1_eq i 5⟩
instance (i : grid0.Coords) : ClosedOff (k0_off2 i 0#32) := ⟨_, k0_off2_eq i 0⟩
instance (i : grid0.Coords) : ClosedOff (k0_off2 i 1#32) := ⟨_, k0_off2_eq i 1⟩
instance (i : grid0.Coords) : ClosedOff (k0_off2 i 2#32) := ⟨_, k0_off2_eq i 2⟩
instance (i : grid0.Coords) : ClosedOff (k0_off2 i 3#32) := ⟨_, k0_off2_eq i 3⟩
instance (i : grid0.Coords) : ClosedOff (k0_off2 i 4#32) := ⟨_, k0_off2_eq i 4⟩
instance (i : grid0.Coords) : ClosedOff (k0_off2 i 5#32) := ⟨_, k0_off2_eq i 5⟩

variable (m : (ℓ : Loc nD τ sig) → Buf (Elt F) ℓ) (ρ : Dev nD → PrngReg)

/-- A run of the pipeline that leaves the arrays it does not own alone leaves the program's arguments unchanged. -/
theorem frame_of_forgets (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 41 = 0 :=
  (fun t => by
    have ht : t.val < 41 := Nat.lt_of_lt_of_eq t.isLt N_0
    have e0 : (grid0.coords t 0).val = t.val / 1 % 41 := Pipeline.Grid.coords_val t 0 (by decide) rfl
    simp only [cond0_0, e0]
    word_cmp
   : ∀ t : Fin grid0.N, cond0_0 (grid0.coords t) ↔ t.val % 41 = 0)

/-! ## The kernel body on any staging memrefs: a subtype the run finds -/

/-- Each window's current staging memref at point `t`, spelled as the pipeline passes it (`bodyAt0`), and its wholeness. -/
abbrev ms0_0 (t : Fin cfg0.N) : Memref sig .tc .vmem S48x4864 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x2432 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S76x768 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S75x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x768 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S19x48x256 .bf16 := Memref.whole cc0_scratch0
abbrev scM0_1 : Memref sig .tc .vmem S76x768 .i32 := Memref.whole cc0_scratch1
abbrev scM0_2 : Memref sig .tc .vmem S75x128 .f32 := Memref.whole cc0_scratch2
/-- The scratch `arg7` the kernel carries between points, as a view: what it holds is stated through it. -/
abbrev VS0_0 : View sig .tc .vmem S19x48x256 .bf16 := scM0_0.view
/-- The scratch `arg9` the kernel carries between points, as a view: what it holds is stated through it. -/
abbrev VS0_2 : View sig .tc .vmem S75x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.Kernel.RunA.lean ====
/-
The kernel body at the first grid point, where it also lays out the activations and stages the scales:
what each buffer holds when the body ends.
-/
module

public import proofs.«01_k».proof.Proof.Kernel.Setup

@[expose] public section

-- the blocks have long axes, so some checks recurse deeply
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [BitOps F]

variable (m : (ℓ : Loc nD τ sig) → Buf (Elt F) ℓ) (ρ : Dev nD → PrngReg)

set_option maxHeartbeats 2776000 in
/-- What the body's stores leave at the first point, as lists of written pieces, the last first: in the output's
    staging buffer, in the scratch of activations and in the scratch of scales; and that from inputs at their
    contents and anything in the other buffers the body runs to exactly that. -/
noncomputable def kernelRun0_A (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x768 .i32) (harg8 : arg8.IsWhole) (arg9 : Memref sig .tc .vmem S75x128 .f32) (harg9 : arg9.IsWhole) (hc0 : cond0_0 i)
    (x0 : Vec F S48x4864 .bf16) (x1 : Vec F S768x2432 .i8) (x2 : Vec F S76x768 .i8) (x3 : Vec F S75x128 .f32) (x4 : Vec F S1 .f32) :
    Σ' (LS0 : List (View.Piece (Elt F) S19x48x256 .bf16)), { LS2 : List (View.Piece (Elt F) S75x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ f, arg7.view.loc (c : Thread nD τ) ↦[arg7.view.set]{fullShare} arg7.view.writes (Elt F) f LS0) ∗ (∃ d, owns (c : Thread nD τ) arg8 fullShare d) ∗ (∃ f, arg9.view.loc (c : Thread nD τ) ↦[arg9.view.set]{fullShare} arg9.view.writes (Elt F) f LS2)) -∗ K ⟨⟩))
          ⊢ wp frame (wpE (defs₀ (F := F)) Variants.none c none) E (cc0_nf4_linear i arg1 harg1 arg2 harg2 arg3 harg3 arg4 harg4 arg5 harg5 arg6 harg6 arg7 harg7 arg8 harg8 arg9 harg9) K } := by
  refine ⟨?_, ?_, fun E K => ?run⟩
  case run =>
    simp only [cc0_nf4_linear_eq_skeleton]; unfold cc0_nf4_linear_skel
    simp only [k0_part257_eq_skeleton, k0_part226_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]; · iexists _; iexact HS0
    isplitl [HS1]
    · iexists _, _; isplitr; swap; · iexact HS1
      ipureintro; rfl
    iexists _; iexact HS2

end Cert.Kernel.Hand

end
-- ==== Proof.Kernel.RunB.lean ====
/-
The kernel body at every later grid point: what each buffer holds when the body ends.
-/
module

public import proofs.«01_k».proof.Proof.Kernel.RunA

@[expose] public section

-- the blocks have long axes, so some checks recurse deeply
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [BitOps F]

variable (m : (ℓ : Loc nD τ sig) → Buf (Elt F) ℓ) (ρ : Dev nD → PrngReg)

set_option maxHeartbeats 2056000 in
/-- What the body's stores leave at a later point, as a list of written pieces, the last first, in the output's
    staging buffer; and that from inputs at their contents and the carried scratch at what the point before left
    the body runs to exactly that, with the carried scratch unchanged. -/
noncomputable def kernelRun0_B (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x768 .i32) (harg8 : arg8.IsWhole) (arg9 : Memref sig .tc .vmem S75x128 .f32) (harg9 : arg9.IsWhole) (hc0 : ¬cond0_0 i)
    (x0 : Vec F S48x4864 .bf16) (x1 : Vec F S768x2432 .i8) (x2 : Vec F S76x768 .i8) (x3 : Vec F S75x128 .f32) (x4 : Vec F S1 .f32) (xs0 : Vec F S19x48x256 .bf16) (xs2 : Vec F S75x128 .f32) :
    Σ' (LS0 : List (View.Piece (Elt F) S19x48x256 .bf16)), { LS2 : List (View.Piece (Elt F) S75x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d) ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d) ∗ owns (c : Thread nD τ) arg9 fullShare xs2) -∗ K ⟨⟩))
          ⊢ wp frame (wpE (defs₀ (F := F)) Variants.none c none) E (cc0_nf4_linear i arg1 harg1 arg2 harg2 arg3 harg3 arg4 harg4 arg5 harg5 arg6 harg6 arg7 harg7 arg8 harg8 arg9 harg9) K } := by
  refine ⟨[], [], fun E K => ?run⟩
  case run =>
    simp only [cc0_nf4_linear_eq_skeleton]; unfold cc0_nf4_linear_skel
    simp only [k0_part257_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg9.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]
    · iexists _; isplitr; · ipureintro; exact harg7.read_unread _
      iexact HS0
    isplitl [HS1]
    · iexists _, _; isplitr; swap; · iexact HS1
      ipureintro; rfl
    iexists _; isplitr; · ipureintro; exact harg9.read_unread _
    iexact HS2

end Cert.Kernel.Hand

end
-- ==== Proof.Kernel.Frame.lean ====
/-
The pipeline's run: what every buffer holds after each grid point, and that the whole program ends with
its arguments unchanged and every semaphore counter at zero.
-/
module

public import proofs.«01_k».proof.Proof.Kernel.RunB
public import Idealize.ShloMosaic.Lib.Claim

@[expose] public section

-- the blocks have long axes, so some checks recurse deeply
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [BitOps F]

variable (m : (ℓ : Loc nD τ sig) → Buf (Elt F) ℓ) (ρ : Dev nD → PrngReg)
/-- Case A's pieces for scratch `arg7`, which the kernel carries between points, cover it: 38 pieces of `S1x48x128` tiling it. -/
theorem scover0_A_0 (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x768 .i32) (harg8 : arg8.IsWhole) (arg9 : Memref sig .tc .vmem S75x128 .f32) (harg9 : arg9.IsWhole) (hc0 : cond0_0 i)
    (x0 : Vec F S48x4864 .bf16) (x1 : Vec F S768x2432 .i8) (x2 : Vec F S76x768 .i8) (x3 : Vec F S75x128 .f32) (x4 : Vec F S1 .f32) (y : S19x48x256.Idx) :
    ∃ pc ∈ (kernelRun0_A c i arg1 harg1 arg2 harg2 arg3 harg3 arg4 harg4 arg5 harg5 arg6 harg6 arg7 harg7 arg8 harg8 arg9 harg9 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).1 S1x48x128.size (by sl_kernel_rfl) y

/-- What case A leaves in scratch `arg7`: its pieces read back over any contents. -/
def sout0_A_0 (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x768 .i32) (harg8 : arg8.IsWhole) (arg9 : Memref sig .tc .vmem S75x128 .f32) (harg9 : arg9.IsWhole) (hc0 : cond0_0 i)
    (x0 : Vec F S48x4864 .bf16) (x1 : Vec F S768x2432 .i8) (x2 : Vec F S76x768 .i8) (x3 : Vec F S75x128 .f32) (x4 : Vec F S1 .f32) : Vec F S19x48x256 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3 x4).1)

/-- Case A's pieces for scratch `arg9`, which the kernel carries between points, cover it: 1 piece of `S75x128` tiling it. -/
theorem scover0_A_2 (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x768 .i32) (harg8 : arg8.IsWhole) (arg9 : Memref sig .tc .vmem S75x128 .f32) (harg9 : arg9.IsWhole) (hc0 : cond0_0 i)
    (x0 : Vec F S48x4864 .bf16) (x1 : Vec F S768x2432 .i8) (x2 : Vec F S76x768 .i8) (x3 : Vec F S75x128 .f32) (x4 : Vec F S1 .f32) (y : S75x128.Idx) :
    ∃ pc ∈ (kernelRun0_A c i arg1 harg1 arg2 harg2 arg3 harg3 arg4 harg4 arg5 harg5 arg6 harg6 arg7 harg7 arg8 harg8 arg9 harg9 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).2.1 S75x128.size (by sl_kernel_rfl) y

/-- What case A leaves in scratch `arg9`: its pieces read back over any contents. -/
def sout0_A_2 (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x768 .i32) (harg8 : arg8.IsWhole) (arg9 : Memref sig .tc .vmem S75x128 .f32) (harg9 : arg9.IsWhole) (hc0 : cond0_0 i)
    (x0 : Vec F S48x4864 .bf16) (x1 : Vec F S768x2432 .i8) (x2 : Vec F S76x768 .i8) (x3 : Vec F S75x128 .f32) (x4 : Vec F S1 .f32) : Vec F S75x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 hc0 x0 x1 x2 x3 x4).2.1)

/-- Case B stores nothing into scratch `arg7`: it holds what the point before left. -/
def sout0_B_0 (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x768 .i32) (harg8 : arg8.IsWhole) (arg9 : Memref sig .tc .vmem S75x128 .f32) (harg9 : arg9.IsWhole) (hc0 : ¬cond0_0 i)
    (x0 : Vec F S48x4864 .bf16) (x1 : Vec F S768x2432 .i8) (x2 : Vec F S76x768 .i8) (x3 : Vec F S75x128 .f32) (x4 : Vec F S1 .f32) (xs0 : Vec F S19x48x256 .bf16) (xs2 : Vec F S75x128 .f32) : Vec F S19x48x256 .bf16 := xs0

/-- Case B stores nothing into scratch `arg9`: it holds what the point before left. -/
def sout0_B_2 (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x768 .i32) (harg8 : arg8.IsWhole) (arg9 : Memref sig .tc .vmem S75x128 .f32) (harg9 : arg9.IsWhole) (hc0 : ¬cond0_0 i)
    (x0 : Vec F S48x4864 .bf16) (x1 : Vec F S768x2432 .i8) (x2 : Vec F S76x768 .i8) (x3 : Vec F S75x128 .f32) (x4 : Vec F S1 .f32) (xs0 : Vec F S19x48x256 .bf16) (xs2 : Vec F S75x128 .f32) : Vec F S75x128 .f32 := xs2

/-! ## What the outputs hold after each point -/

/-- What the two scratch buffers that the kernel carries between points hold after the body at point `n`: at the
    first point what the body leaves there by itself, at a later point what point `n - 1` left. -/
def outsAt0 (c : Dev nD) : (n : ℕ) → n < cfg0.N → Vec F S19x48x256 .bf16 × Vec F S75x128 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 41 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 41 = 0) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 41 = 0) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What holds before point `n`: at the first point every scratch buffer holds something; later each carried
    scratch buffer holds what the point before left in it. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).1) ∗ (∃ d, owns (c : Thread nD τ) scM0_1 fullShare d) ∗ owns (c : Thread nD τ) scM0_2 fullShare ((outsAt0 m c n hn).2)) ∗ (∃ r, prngReg c r))

/-- At the first point every scratch buffer holds something. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ (∃ d, owns (c : Thread nD τ) scM0_1 fullShare d) ∗ owns (c : Thread nD τ) scM0_2 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ (∃ d, owns (c : Thread nD τ) scM0_1 fullShare d) ∗ owns (c : Thread nD τ) scM0_2 fullShare ((outsAt0 m c (n - 1) (by omega)).2)) ∗ (∃ r, prngReg c r)) := by
  cases n with
  | zero => exact absurd rfl hz
  | succ n => rfl

/-! ## The pipeline's proof data -/

/-- The output's window, whose contents no claim about the kernel on bits reads. -/
def forgets0 : Fin 6 → Bool := fun w => w.val == 5

/-- The data of the pipeline's proof on core `c`: the arrays as the pipeline finds them; after the body at point
    `t` each input's buffer at its block, and the output's at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := PhiS m c t.val (Nat.le_of_lt_succ t.isLt)
  q _ := fullShare
  owed _ := 0

/-- The arrays of the proof's data are the contents that the pipeline finds. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 6400000 in
/-- The body at any point: the inputs' buffers hold their blocks, so the run of the case that the point is in
    applies, with the carried scratch at what the point before left; and the scratch is given back at what this
    point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 41 := lt_of_lt_of_eq t.isLt (show cfg0.N = 41 from N_0)
  by_cases h0 : t.val % 41 = 0
  · by_cases hz : t.val = 0
    · rw [PhiS_castSucc m c t, PhiS_zero m c _ _ hz, PhiA0_eq]
      rw [outsAt0_A m c t h0]
      unfold sout0_A_0 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, H5, ⟨%es0, HS0⟩, HS1, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          isplitl [HS1]
          · iexact HS1
          unfold owns; iexists _; isplitr
          swap; · iexact HS2
          ipureintro; exact View.read_writes_of_cover _ _ _ _ _ (scover0_A_2 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexact H5
    · exfalso; have hN : t.val < 41 := lt_of_lt_of_eq t.isLt (show cfg0.N = 41 from N_0); omega
  · by_cases hz : t.val = 0
    · exfalso; have hN : t.val < 41 := lt_of_lt_of_eq t.isLt (show cfg0.N = 41 from N_0); omega
    · rw [PhiS_castSucc m c t, PhiS_pos m c _ _ hz]
      rw [outsAt0_B m c t h0]
      unfold sout0_B_0 sout0_B_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) _ _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 41 := N_0; omega)

/-! ## The run and the frame -/

-- `θ_run_frame_track_forget`'s implicit arguments are found by unifying its conclusion with this one, which takes unfolding plain
-- definitions in a metavariable's type
set_option backward.isDefEq.respectTransparency.types false in
/-- The program runs as `run_main` says, and ends with every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- From any memory with zero counters the program runs to its end; then every array of the pipeline holds
    what the proof's data says, and every other buffer what it held before. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_forgets m ρ (fun c => (dats m 0 c).toRForget forgets0) (A_eq m) (run_main m ρ)

/-- The program runs to its end from any memory, with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.KernelIdeal.Setup.lean ====
/-
The rows of the scale scratch that a grid point reads, in closed form.

Point `i` covers 768 output features, in six lane tiles of 128. Tile `r` of the point starts at scale
group `38 * (6 * i + r)`, which lies in row `38 * (6 * i + r) / 128` of the `75 × 128` scratch; the
kernel reads that row and the next.
-/
module

public import proofs.«01_k».proof.Proof.Gen.KernelIdeal.Frame
public import proofs.«01_k».proof.Proof.Gen.KernelIdeal.Loops
public import Idealize.ShloMosaic.Lib.Claim

@[expose] public section
noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The first row that lane tile `r` of point `i` reads. -/
theorem k0_off1_eq : ∀ (i : grid0.Coords) (r : Fin 6),
    k0_off1 i (BitVec.ofNat 32 r.val) = ![((i 0).val * 6 + r.val) * 38 / 128, 0] := by decide +kernel

/-- The second row is the next one. -/
theorem k0_off2_eq : ∀ (i : grid0.Coords) (r : Fin 6),
    k0_off2 i (BitVec.ofNat 32 r.val) = ![((i 0).val * 6 + r.val) * 38 / 128 + 1, 0] := by decide +kernel

instance (i : grid0.Coords) : ClosedOff (k0_off1 i 0#32) := ⟨_, k0_off1_eq i 0⟩
instance (i : grid0.Coords) : ClosedOff (k0_off1 i 1#32) := ⟨_, k0_off1_eq i 1⟩
instance (i : grid0.Coords) : ClosedOff (k0_off1 i 2#32) := ⟨_, k0_off1_eq i 2⟩
instance (i : grid0.Coords) : ClosedOff (k0_off1 i 3#32) := ⟨_, k0_off1_eq i 3⟩
instance (i : grid0.Coords) : ClosedOff (k0_off1 i 4#32) := ⟨_, k0_off1_eq i 4⟩
instance (i : grid0.Coords) : ClosedOff (k0_off1 i 5#32) := ⟨_, k0_off1_eq i 5⟩
instance (i : grid0.Coords) : ClosedOff (k0_off2 i 0#32) := ⟨_, k0_off2_eq i 0⟩
instance (i : grid0.Coords) : ClosedOff (k0_off2 i 1#32) := ⟨_, k0_off2_eq i 1⟩
instance (i : grid0.Coords) : ClosedOff (k0_off2 i 2#32) := ⟨_, k0_off2_eq i 2⟩
instance (i : grid0.Coords) : ClosedOff (k0_off2 i 3#32) := ⟨_, k0_off2_eq i 3⟩
instance (i : grid0.Coords) : ClosedOff (k0_off2 i 4#32) := ⟨_, k0_off2_eq i 4⟩
instance (i : grid0.Coords) : ClosedOff (k0_off2 i 5#32) := ⟨_, k0_off2_eq i 5⟩

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 41 = 0 :=
  (fun t => by
    have ht : t.val < 41 := Nat.lt_of_lt_of_eq t.isLt N_0
    have e0 : (grid0.coords t 0).val = t.val / 1 % 41 := Pipeline.Grid.coords_val t 0 (by decide) rfl
    simp only [cond0_0, e0]
    word_cmp
   : ∀ t : Fin grid0.N, cond0_0 (grid0.coords t) ↔ t.val % 41 = 0)

/-! ## The kernel body on any staging memrefs: a subtype the run finds -/

/-- One staging buffer of output window 5, through which its contents are stated (`View.read_writes_of_cover`: the
    choice does not matter). -/
abbrev VO0_5 : View sig .tc .vmem S48x768 .bf16 := (Memref.whole cc0_stg5_0 : Memref sig .tc .vmem S48x768 .bf16).view
/-- Each window's current staging memref at point `t`, spelled as the pipeline passes it (`bodyAt0`), and its wholeness. -/
abbrev ms0_0 (t : Fin cfg0.N) : Memref sig .tc .vmem S48x4864 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x2432 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S76x768 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S75x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x768 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S19x48x256 .bf16 := Memref.whole cc0_scratch0
abbrev scM0_1 : Memref sig .tc .vmem S76x2x768 .bf16 := Memref.whole cc0_scratch1
abbrev scM0_2 : Memref sig .tc .vmem S75x128 .f32 := Memref.whole cc0_scratch2
/-- The scratch `arg7` the kernel carries between points, as a view: what it holds is stated through it. -/
abbrev VS0_0 : View sig .tc .vmem S19x48x256 .bf16 := scM0_0.view
/-- The scratch `arg9` the kernel carries between points, as a view: what it holds is stated through it. -/
abbrev VS0_2 : View sig .tc .vmem S75x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KernelIdeal.RunA.lean ====
/-
The kernel body at the first grid point, where it also lays out the activations and stages the scales:
what each buffer holds when the body ends.
-/
module

public import proofs.«01_k».proof.Proof.KernelIdeal.Setup

@[expose] public section

-- the blocks have long axes, so some checks recurse deeply
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 3500000 in
/-- What the body's stores leave at the first point, as lists of written pieces, the last first: in the output's
    staging buffer, in the scratch of activations and in the scratch of scales; and that from inputs at their
    contents and anything in the other buffers the body runs to exactly that. -/
noncomputable def kernelRun0_A (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x2x768 .bf16) (harg8 : arg8.IsWhole) (arg9 : Memref sig .tc .vmem S75x128 .f32) (harg9 : arg9.IsWhole) (hc0 : cond0_0 i)
    (x0 : Vec F S48x4864 .bf16) (x1 : Vec F S768x2432 .i8) (x2 : Vec F S76x768 .i8) (x3 : Vec F S75x128 .f32) (x4 : Vec F S1 .f32) :
    Σ' (L5 : List (View.Piece (Elt F) S48x768 .bf16)), Σ' (LS0 : List (View.Piece (Elt F) S19x48x256 .bf16)), { LS2 : List (View.Piece (Elt F) S75x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ d, owns (c : Thread nD τ) arg8 fullShare d) ∗ (∃ f, arg9.view.loc (c : Thread nD τ) ↦[arg9.view.set]{fullShare} arg9.view.writes (Elt F) f LS2)) -∗ K ⟨⟩))
          ⊢ wp frame (wpE (defs₀ (F := F)) Variants.none c none) E (cc0_nf4_linear i arg1 harg1 arg2 harg2 arg3 harg3 arg4 harg4 arg5 harg5 arg6 harg6 arg7 harg7 arg8 harg8 arg9 harg9) K } := by
  refine ⟨?_, ?_, ?_, fun E K => ?run⟩
  case run =>
    simp only [cc0_nf4_linear_eq_skeleton]; unfold cc0_nf4_linear_skel
    simp only [k0_part271_eq_skeleton, k0_part234_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    isplitl [HS1]
    · iexists _, _; isplitr; swap; · iexact HS1
      ipureintro; rfl
    iexists _; iexact HS2

end Cert.KernelIdeal.Hand

end
-- ==== Proof.KernelIdeal.RunB.lean ====
/-
The kernel body at every later grid point: what each buffer holds when the body ends.
-/
module

public import proofs.«01_k».proof.Proof.KernelIdeal.RunA

@[expose] public section

-- the blocks have long axes, so some checks recurse deeply
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 2780000 in
/-- What the body's stores leave at a later point, as a list of written pieces, the last first, in the output's
    staging buffer; and that from inputs at their contents and the carried scratch at what the point before left
    the body runs to exactly that, with the carried scratch unchanged. -/
noncomputable def kernelRun0_B (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x2x768 .bf16) (harg8 : arg8.IsWhole) (arg9 : Memref sig .tc .vmem S75x128 .f32) (harg9 : arg9.IsWhole) (hc0 : ¬cond0_0 i)
    (x0 : Vec F S48x4864 .bf16) (x1 : Vec F S768x2432 .i8) (x2 : Vec F S76x768 .i8) (x3 : Vec F S75x128 .f32) (x4 : Vec F S1 .f32) (xs0 : Vec F S19x48x256 .bf16) (xs2 : Vec F S75x128 .f32) :
    Σ' (L5 : List (View.Piece (Elt F) S48x768 .bf16)), Σ' (LS0 : List (View.Piece (Elt F) S19x48x256 .bf16)), { LS2 : List (View.Piece (Elt F) S75x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d) ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0 ∗ (∃ d, owns (c : Thread nD τ) arg8 fullShare d) ∗ owns (c : Thread nD τ) arg9 fullShare xs2) -∗ K ⟨⟩))
          ⊢ wp frame (wpE (defs₀ (F := F)) Variants.none c none) E (cc0_nf4_linear i arg1 harg1 arg2 harg2 arg3 harg3 arg4 harg4 arg5 harg5 arg6 harg6 arg7 harg7 arg8 harg8 arg9 harg9) K } := by
  refine ⟨?_, [], [], fun E K => ?run⟩
  case run =>
    simp only [cc0_nf4_linear_eq_skeleton]; unfold cc0_nf4_linear_skel
    simp only [k0_part271_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg9.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    isplitl [HS1]
    · iexists _, _; isplitr; swap; · iexact HS1
      ipureintro; rfl
    iexists _; isplitr; · ipureintro; exact harg9.read_unread _
    iexact HS2

end Cert.KernelIdeal.Hand

end
-- ==== Proof.KernelIdeal.Frame.lean ====
/-
The pipeline's run: what every buffer holds after each grid point, and that the whole program ends with
its arguments unchanged and every semaphore counter at zero.
-/
module

public import proofs.«01_k».proof.Proof.KernelIdeal.RunB
public import Idealize.ShloMosaic.Lib.Claim

@[expose] public section

-- the blocks have long axes, so some checks recurse deeply
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 5 tile its block with three stores of `S48x256`, so they cover it. -/
theorem cover0_A_5 (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x2x768 .bf16) (harg8 : arg8.IsWhole) (arg9 : Memref sig .tc .vmem S75x128 .f32) (harg9 : arg9.IsWhole) (hc0 : cond0_0 i)
    (x0 : Vec F S48x4864 .bf16) (x1 : Vec F S768x2432 .i8) (x2 : Vec F S76x768 .i8) (x3 : Vec F S75x128 .f32) (x4 : Vec F S1 .f32) (y : S48x768.Idx) :
    ∃ pc ∈ (kernelRun0_A c i arg1 harg1 arg2 harg2 arg3 harg3 arg4 harg4 arg5 harg5 arg6 harg6 arg7 harg7 arg8 harg8 arg9 harg9 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).1 S48x256.size (by sl_kernel_rfl) y

/-- What case A leaves in output 5's staging buffer: its pieces read back over any contents. -/
def out0_A_5 (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x2x768 .bf16) (harg8 : arg8.IsWhole) (arg9 : Memref sig .tc .vmem S75x128 .f32) (harg9 : arg9.IsWhole) (hc0 : cond0_0 i)
    (x0 : Vec F S48x4864 .bf16) (x1 : Vec F S768x2432 .i8) (x2 : Vec F S76x768 .i8) (x3 : Vec F S75x128 .f32) (x4 : Vec F S1 .f32) : Vec F S48x768 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 x0 x1 x2 x3 x4).1)

/-- Case A's pieces for scratch `arg7`, which the kernel carries between points, cover it: 38 pieces of `S1x48x128` tiling it. -/
theorem scover0_A_0 (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x2x768 .bf16) (harg8 : arg8.IsWhole) (arg9 : Memref sig .tc .vmem S75x128 .f32) (harg9 : arg9.IsWhole) (hc0 : cond0_0 i)
    (x0 : Vec F S48x4864 .bf16) (x1 : Vec F S768x2432 .i8) (x2 : Vec F S76x768 .i8) (x3 : Vec F S75x128 .f32) (x4 : Vec F S1 .f32) (y : S19x48x256.Idx) :
    ∃ pc ∈ (kernelRun0_A c i arg1 harg1 arg2 harg2 arg3 harg3 arg4 harg4 arg5 harg5 arg6 harg6 arg7 harg7 arg8 harg8 arg9 harg9 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).2.1 S1x48x128.size (by sl_kernel_rfl) y

/-- What case A leaves in scratch `arg7`: its pieces read back over any contents. -/
def sout0_A_0 (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x2x768 .bf16) (harg8 : arg8.IsWhole) (arg9 : Memref sig .tc .vmem S75x128 .f32) (harg9 : arg9.IsWhole) (hc0 : cond0_0 i)
    (x0 : Vec F S48x4864 .bf16) (x1 : Vec F S768x2432 .i8) (x2 : Vec F S76x768 .i8) (x3 : Vec F S75x128 .f32) (x4 : Vec F S1 .f32) : Vec F S19x48x256 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3 x4).2.1)

/-- Case A's pieces for scratch `arg9`, which the kernel carries between points, cover it: 1 piece of `S75x128` tiling it. -/
theorem scover0_A_2 (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x2x768 .bf16) (harg8 : arg8.IsWhole) (arg9 : Memref sig .tc .vmem S75x128 .f32) (harg9 : arg9.IsWhole) (hc0 : cond0_0 i)
    (x0 : Vec F S48x4864 .bf16) (x1 : Vec F S768x2432 .i8) (x2 : Vec F S76x768 .i8) (x3 : Vec F S75x128 .f32) (x4 : Vec F S1 .f32) (y : S75x128.Idx) :
    ∃ pc ∈ (kernelRun0_A c i arg1 harg1 arg2 harg2 arg3 harg3 arg4 harg4 arg5 harg5 arg6 harg6 arg7 harg7 arg8 harg8 arg9 harg9 hc0 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).2.2.1 S75x128.size (by sl_kernel_rfl) y

/-- What case A leaves in scratch `arg9`: its pieces read back over any contents. -/
def sout0_A_2 (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x2x768 .bf16) (harg8 : arg8.IsWhole) (arg9 : Memref sig .tc .vmem S75x128 .f32) (harg9 : arg9.IsWhole) (hc0 : cond0_0 i)
    (x0 : Vec F S48x4864 .bf16) (x1 : Vec F S768x2432 .i8) (x2 : Vec F S76x768 .i8) (x3 : Vec F S75x128 .f32) (x4 : Vec F S1 .f32) : Vec F S75x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 hc0 x0 x1 x2 x3 x4).2.2.1)

/-- Case B's pieces for output 5 tile its block with three stores of `S48x256`, so they cover it. -/
theorem cover0_B_5 (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x2x768 .bf16) (harg8 : arg8.IsWhole) (arg9 : Memref sig .tc .vmem S75x128 .f32) (harg9 : arg9.IsWhole) (hc0 : ¬cond0_0 i)
    (x0 : Vec F S48x4864 .bf16) (x1 : Vec F S768x2432 .i8) (x2 : Vec F S76x768 .i8) (x3 : Vec F S75x128 .f32) (x4 : Vec F S1 .f32) (xs0 : Vec F S19x48x256 .bf16) (xs2 : Vec F S75x128 .f32) (y : S48x768.Idx) :
    ∃ pc ∈ (kernelRun0_B c i arg1 harg1 arg2 harg2 arg3 harg3 arg4 harg4 arg5 harg5 arg6 harg6 arg7 harg7 arg8 harg8 arg9 harg9 hc0 x0 x1 x2 x3 x4 xs0 xs2).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 xs0 xs2).1 S48x256.size (by sl_kernel_rfl) y

/-- What case B leaves in output 5's staging buffer: its pieces read back over any contents. -/
def out0_B_5 (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x2x768 .bf16) (harg8 : arg8.IsWhole) (arg9 : Memref sig .tc .vmem S75x128 .f32) (harg9 : arg9.IsWhole) (hc0 : ¬cond0_0 i)
    (x0 : Vec F S48x4864 .bf16) (x1 : Vec F S768x2432 .i8) (x2 : Vec F S76x768 .i8) (x3 : Vec F S75x128 .f32) (x4 : Vec F S1 .f32) (xs0 : Vec F S19x48x256 .bf16) (xs2 : Vec F S75x128 .f32) : Vec F S48x768 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 x0 x1 x2 x3 x4 xs0 xs2).1)

/-- Case B stores nothing into scratch `arg7`: it holds what the point before left. -/
def sout0_B_0 (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x2x768 .bf16) (harg8 : arg8.IsWhole) (arg9 : Memref sig .tc .vmem S75x128 .f32) (harg9 : arg9.IsWhole) (hc0 : ¬cond0_0 i)
    (x0 : Vec F S48x4864 .bf16) (x1 : Vec F S768x2432 .i8) (x2 : Vec F S76x768 .i8) (x3 : Vec F S75x128 .f32) (x4 : Vec F S1 .f32) (xs0 : Vec F S19x48x256 .bf16) (xs2 : Vec F S75x128 .f32) : Vec F S19x48x256 .bf16 := xs0

/-- Case B stores nothing into scratch `arg9`: it holds what the point before left. -/
def sout0_B_2 (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x2x768 .bf16) (harg8 : arg8.IsWhole) (arg9 : Memref sig .tc .vmem S75x128 .f32) (harg9 : arg9.IsWhole) (hc0 : ¬cond0_0 i)
    (x0 : Vec F S48x4864 .bf16) (x1 : Vec F S768x2432 .i8) (x2 : Vec F S76x768 .i8) (x3 : Vec F S75x128 .f32) (x4 : Vec F S1 .f32) (xs0 : Vec F S19x48x256 .bf16) (xs2 : Vec F S75x128 .f32) : Vec F S75x128 .f32 := xs2

/-! ## What the outputs hold after each point -/

/-- What the output's staging buffer and the two scratch buffers that the kernel carries between points hold
    after the body at point `n`: at the first point what the body leaves there by itself, at a later point what it
    leaves over the contents of point `n - 1`. -/
def outsAt0 (c : Dev nD) : (n : ℕ) → n < cfg0.N → Vec F S48x768 .bf16 × Vec F S19x48x256 .bf16 × Vec F S75x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 41 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 41 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 41 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- What holds before point `n`: at the first point every scratch buffer holds something; later each carried
    scratch buffer holds what the point before left in it. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2)) ∗ (∃ r, prngReg c r))

/-- At the first point every scratch buffer holds something. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ owns (c : Thread nD τ) scM0_2 fullShare ((outsAt0 m c (n - 1) (by omega)).2.2)) ∗ (∃ r, prngReg c r)) := by
  cases n with
  | zero => exact absurd rfl hz
  | succ n => rfl

/-! ## The pipeline's proof data -/

/-- The data of the pipeline's proof on core `c`: the arrays as the pipeline finds them; after the body at point
    `t` each input's buffer at its block and the output's as `outsAt0` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The arrays of the proof's data are the contents that the pipeline finds. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point: the inputs' buffers hold their blocks, so the run of the case that the point is in
    applies, with the carried scratch at what the point before left; and the scratch is given back at what this
    point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 41 := lt_of_lt_of_eq t.isLt (show cfg0.N = 41 from N_0)
  by_cases h0 : t.val % 41 = 0
  · by_cases hz : t.val = 0
    · rw [PhiS_castSucc m c t, PhiS_zero m c _ _ hz, PhiA0_eq]
      rw [outsAt0_A m c t h0]
      unfold out0_A_5 sout0_A_0 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, HS1, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          isplitl [HS1]
          · iexact HS1
          unfold owns; iexists _; isplitr
          swap; · iexact HS2
          ipureintro; exact View.read_writes_of_cover _ _ _ _ _ (scover0_A_2 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _ _ _ _ _)
    · exfalso; have hN : t.val < 41 := lt_of_lt_of_eq t.isLt (show cfg0.N = 41 from N_0); omega
  · by_cases hz : t.val = 0
    · exfalso; have hN : t.val < 41 := lt_of_lt_of_eq t.isLt (show cfg0.N = 41 from N_0); omega
    · rw [PhiS_castSucc m c t, PhiS_pos m c _ _ hz]
      rw [outsAt0_B m c t h0]
      unfold out0_B_5 sout0_B_0 sout0_B_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 41 := N_0; omega)

/-! ## The run and the frame -/

set_option backward.isDefEq.respectTransparency.types false in
/-- The program runs as `run_main` says, and ends with every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- From any memory with zero counters the program runs to its end; then every array of the pipeline holds
    what the proof's data says, and every other buffer what it held before. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The program runs to its end from any memory, with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Claims.lean ====
/-
The claims that say nothing about values: the three programs run, end with their arguments unchanged and
every semaphore counter at zero, and the idealized kernel's rewrites are the sanctioned ones.
-/
module

public import proofs.«01_k».proof.Defs
public import proofs.«01_k».proof.Proof.Kernel.Frame
public import proofs.«01_k».proof.Proof.KernelIdeal.Frame
public import proofs.«01_k».proof.Proof.Gen.ReferenceIdeal.Run
public import Idealize.ShloMosaic.Lib.Bf16PairInverse

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- The kernel on bits runs and leaves its arguments alone. -/
theorem frame_kernel : Cert.quiescent_Kernel (hKernel := Cert.Kernel.Gen.facts) :=
  fun m ρ _ => Cert.Kernel.Hand.frame m ρ

/-- So does the kernel on extended reals. -/
theorem frame_kernelIdeal : Cert.quiescent_KernelIdeal (hKernelIdeal := Cert.KernelIdeal.Gen.facts) :=
  fun m ρ _ => Cert.KernelIdeal.Hand.frame m ρ

/-- So does the reference, which has no semaphore. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- Every rewrite that made the idealized kernel is an instance of its rule. -/
theorem preserves : Cert.preserves_Kernel_KernelIdeal :=
  ⟨IdealRules.bf16_pair.bufferStatement _ _, IdealRules.bf16_pair.packStatement _, IdealRules.bf16_pair.statement _ _,
    IdealRules.bf16_pair.packStatement _, IdealRules.bf16_pair.statement _ _, IdealRules.bf16_pair.statement _ _,
    IdealRules.bf16_pair.statement _ _⟩

end Cert.Proof

end
-- ==== Proof.KernelIdeal.Tile.lean ====
/-
What one trip of the tile loop stores, written once for a general tile.

A trip takes one MXU tile of 256 output features. For each of the 19 chunks of 128 packed columns it
rebuilds the dequantised weights of both nibbles, multiplies the permuted activations by them and adds
the product to the accumulator. The program has these steps written out one by one; here they are
functions of the chunk, of the 128-feature half of the tile, of the group of 32 packed columns and of
the nibble.
-/
module

public import proofs.«01_k».proof.Proof.Gen.KernelIdeal.Loops
public import proofs.«01_k».proof.Proof.KernelIdeal.Setup

@[expose] public section
noncomputable section

namespace Cert.KernelIdeal.Hand

open Idealize.ShloMosaic Idealize.ShloMosaic.TcCoe Idealize.ShloMosaic.Tactic
open Cert.KernelIdeal.Gen

variable {F : FTy → Type} [FloatOps F]

/-- One row of 128 block scales, repeated over the 16 weight rows that it multiplies. -/
def amRows (raw : Vec F S1x2x128 .bf16) : FVec F S16x128 .bf16 :=
  interleaveRows S16x128
    (concatenate S8x128 0 [⟨S1x128, shapeCast S1x128 (rowsOfParity 0 S1x1x128 raw bitcasts_S1x2x128_w16_S1x1x128_w32) shapeCasts_S1x1x128_S1x128⟩, ⟨S1x128, shapeCast S1x128 (rowsOfParity 0 S1x1x128 raw bitcasts_S1x2x128_w16_S1x1x128_w32) shapeCasts_S1x1x128_S1x128⟩, ⟨S1x128, shapeCast S1x128 (rowsOfParity 0 S1x1x128 raw bitcasts_S1x2x128_w16_S1x1x128_w32) shapeCasts_S1x1x128_S1x128⟩, ⟨S1x128, shapeCast S1x128 (rowsOfParity 0 S1x1x128 raw bitcasts_S1x2x128_w16_S1x1x128_w32) shapeCasts_S1x1x128_S1x128⟩, ⟨S1x128, shapeCast S1x128 (rowsOfParity 0 S1x1x128 raw bitcasts_S1x2x128_w16_S1x1x128_w32) shapeCasts_S1x1x128_S1x128⟩, ⟨S1x128, shapeCast S1x128 (rowsOfParity 0 S1x1x128 raw bitcasts_S1x2x128_w16_S1x1x128_w32) shapeCasts_S1x1x128_S1x128⟩, ⟨S1x128, shapeCast S1x128 (rowsOfParity 0 S1x1x128 raw bitcasts_S1x2x128_w16_S1x1x128_w32) shapeCasts_S1x1x128_S1x128⟩, ⟨S1x128, shapeCast S1x128 (rowsOfParity 0 S1x1x128 raw bitcasts_S1x2x128_w16_S1x1x128_w32) shapeCasts_S1x1x128_S1x128⟩] concatenates_S1x128_S1x128_S1x128_S1x128_S1x128_S1x128_S1x128_S1x128_S8x128_d0)
    (concatenate S8x128 0 [⟨S1x128, shapeCast S1x128 (rowsOfParity 1 S1x1x128 raw bitcasts_S1x2x128_w16_S1x1x128_w32) shapeCasts_S1x1x128_S1x128⟩, ⟨S1x128, shapeCast S1x128 (rowsOfParity 1 S1x1x128 raw bitcasts_S1x2x128_w16_S1x1x128_w32) shapeCasts_S1x1x128_S1x128⟩, ⟨S1x128, shapeCast S1x128 (rowsOfParity 1 S1x1x128 raw bitcasts_S1x2x128_w16_S1x1x128_w32) shapeCasts_S1x1x128_S1x128⟩, ⟨S1x128, shapeCast S1x128 (rowsOfParity 1 S1x1x128 raw bitcasts_S1x2x128_w16_S1x1x128_w32) shapeCasts_S1x1x128_S1x128⟩, ⟨S1x128, shapeCast S1x128 (rowsOfParity 1 S1x1x128 raw bitcasts_S1x2x128_w16_S1x1x128_w32) shapeCasts_S1x1x128_S1x128⟩, ⟨S1x128, shapeCast S1x128 (rowsOfParity 1 S1x1x128 raw bitcasts_S1x2x128_w16_S1x1x128_w32) shapeCasts_S1x1x128_S1x128⟩, ⟨S1x128, shapeCast S1x128 (rowsOfParity 1 S1x1x128 raw bitcasts_S1x2x128_w16_S1x1x128_w32) shapeCasts_S1x1x128_S1x128⟩, ⟨S1x128, shapeCast S1x128 (rowsOfParity 1 S1x1x128 raw bitcasts_S1x2x128_w16_S1x1x128_w32) shapeCasts_S1x1x128_S1x128⟩] concatenates_S1x128_S1x128_S1x128_S1x128_S1x128_S1x128_S1x128_S1x128_S8x128_d0)
    bitcasts_S16x128_w16_S8x128_w32

/-- A group of 32 rows of a transposed weight tile lies inside the tile. -/
theorem slicesQ (q : Fin 4) : S128x128.Slices ![32 * q.val, 0] S32x128 := by
  revert q; decide

/-- The packed words of group `q` of a chunk: four packed columns of one feature to a word. -/
def wordOf (w : Vec F S128x128 .i8) (q : Fin 4) : IVec S8x128 32 :=
  bitcast S8x128 32 (extractStridedSlice S32x128 ![32 * q.val, 0]
    (transpose S128x128 [1, 0] w transposes_S128x128_p1_0_S128x128) (slicesQ q)) bitcasts_S32x128_w8_S8x128_w32

/-- The words with the chosen nibble of each byte brought to the low end. -/
def shiftH (w : IVec S8x128 32) (h : Fin 2) : IVec S8x128 32 :=
  if h.val = 0 then w else shrui w (broadcast S8x128 4#32)

/-- The four-bit codes of one nibble of a word, one byte each. -/
def codeOf (x4 : IVec S8x128 32) : IVec S32x128 8 :=
  bitcast S32x128 8 (andi x4 (broadcast S8x128 252645135#32)) bitcasts_S8x128_w32_S32x128_w8

/-- The codes as gather indices. -/
def idxOf (x4 : IVec S8x128 32) : IVec S32x128 32 :=
  shapeCast S32x128 (shapeCast S32x128x1 (extsi 32 (codeOf x4) natLt_8_32) shapeCasts_S32x128_S32x128x1)
    shapeCasts_S32x128x1_S32x128

/-- One byte of the table's bf16 entries, looked up at the codes. -/
def byteOf (tab : IVec S32x128 8) (x4 : IVec S8x128 32) : IVec S32x128 8 := dynamicGather 0 tab (idxOf x4)

/-- The looked-up entries of the even packed columns: the low bytes at even places, the high bytes moved up beside them. -/
def evenWord (lo hi : IVec S32x128 8) : IVec S8x128 32 :=
  ori (andi (bitcast S8x128 32 lo bitcasts_S32x128_w8_S8x128_w32) (broadcast S8x128 16711935#32))
    (shli (andi (bitcast S8x128 32 hi bitcasts_S32x128_w8_S8x128_w32) (broadcast S8x128 16711935#32)) (broadcast S8x128 8#32))

/-- The looked-up entries of the odd packed columns: the low bytes moved down one place, the high bytes kept. -/
def oddWord (sel : IVec S32x128 1) (lo hi : IVec S32x128 8) : IVec S8x128 32 :=
  bitcast S8x128 32 (select sel hi (bitcast S32x128 8
    (shrui (bitcast S8x128 32 lo bitcasts_S32x128_w8_S8x128_w32) (broadcast S8x128 8#32)) bitcasts_S8x128_w32_S32x128_w8))
    bitcasts_S32x128_w8_S8x128_w32

/-- Sixteen dequantised rows: the entries as bf16 by the block scales. -/
def partOf (w16 : IVec S8x128 32) (am : FVec F S16x128 .bf16) : FVec F S16x128 .bf16 :=
  mulf (bitcastToFloat .bf16 (bitcast S16x128 16 w16 bitcasts_S8x128_w32_S16x128_w16)) am

/-- Part `p` of a column of 256 dequantised rows: nibble `p / 8`, group `p % 8 / 2`, even or odd columns by `p % 2`. -/
def part (v21 v40 : IVec S32x128 8) (v59 : IVec S32x128 1) (w : Vec F S128x128 .i8) (A : Fin 2 → Fin 2 → Vec F S1x2x128 .bf16)
    (h : Fin 2) (q : Fin 4) (e : Fin 2) : FVec F S16x128 .bf16 :=
  if e.val = 0 then
    partOf (evenWord (byteOf v21 (shiftH (wordOf (F := F) w q) h)) (byteOf v40 (shiftH (wordOf (F := F) w q) h)))
      (amRows (A h ⟨q.val / 2, by omega⟩))
  else
    partOf (oddWord v59 (byteOf v21 (shiftH (wordOf (F := F) w q) h)) (byteOf v40 (shiftH (wordOf (F := F) w q) h)))
      (amRows (A h ⟨q.val / 2, by omega⟩))

/-- The 256 dequantised rows of a chunk, for 128 output features. -/
def column (v21 v40 : IVec S32x128 8) (v59 : IVec S32x128 1) (w : Vec F S128x128 .i8) (A : Fin 2 → Fin 2 → Vec F S1x2x128 .bf16) :
    FVec F S256x128 .bf16 :=
  concatenate S256x128 0
    (List.ofFn fun p : Fin 16 => (⟨S16x128, part v21 v40 v59 w A ⟨p.val / 8, by omega⟩ ⟨p.val % 8 / 2, by omega⟩ ⟨p.val % 2, by omega⟩⟩ : (s : Shape) × (s.Idx → F .bf16)))
    concatenates_S16x128_S16x128_S16x128_S16x128_S16x128_S16x128_S16x128_S16x128_S16x128_S16x128_S16x128_S16x128_S16x128_S16x128_S16x128_S16x128_S256x128_d0

/-- The dequantised weights of a chunk, for the 256 output features of a tile. -/
def wkOf (v21 v40 : IVec S32x128 8) (v59 : IVec S32x128 1) (W : Fin 2 → Vec F S128x128 .i8)
    (A : Fin 2 → Fin 2 → Fin 2 → Vec F S1x2x128 .bf16) : FVec F S256x256 .bf16 :=
  concatenate S256x256 1 [⟨S256x128, column v21 v40 v59 (W 0) (A 0)⟩, ⟨S256x128, column v21 v40 v59 (W 1) (A 1)⟩]
    concatenates_S256x128_S256x128_S256x256_d1

/-- The accumulator after the first `n` chunks. -/
def accOf (v21 v40 : IVec S32x128 8) (v59 : IVec S32x128 1) (X : Fin 19 → Vec F S1x48x256 .bf16)
    (W : Fin 19 → Fin 2 → Vec F S128x128 .i8) (A : Fin 19 → Fin 2 → Fin 2 → Fin 2 → Vec F S1x2x128 .bf16) :
    (n : ℕ) → n ≤ 19 → FVec F S48x256 .f32
  | 0, _ => broadcast S48x256 (Scalar.ofBits .f32 0x00000000#32)
  | n + 1, hn => addf (accOf v21 v40 v59 X W A n (Nat.le_of_succ_le hn))
      (matmul dot_S48x256_S256x256_S48x256_1_0_0_1_n_n none (shapeCast S48x256 (X ⟨n, hn⟩) shapeCasts_S1x48x256_S48x256)
        (wkOf v21 v40 v59 (W ⟨n, hn⟩) (A ⟨n, hn⟩)) (constant S48x256 .f32 0x00000000#32))

/-- A chunk of activations lies in the scratch. -/
theorem inbX (c : Fin 19) : ∀ a, (![c.val, 0, 0] : Fin 3 → ℕ) a + S1x48x256.size a ≤ S19x48x256.size a := by
  revert c; decide
/-- A tile of packed weights lies in the block. -/
theorem inbW (k : Fin 3) (c : Fin 19) (nn : Fin 2) :
    ∀ a, (![256 * k.val + 128 * nn.val, 128 * c.val] : Fin 2 → ℕ) a + S128x128.size a ≤ S768x2432.size a := by
  revert k c nn; decide +kernel
/-- A row of block scales lies in the scratch. -/
theorem inbA (k : Fin 3) (c : Fin 19) (nn h e : Fin 2) :
    ∀ a, (![38 * h.val + 2 * c.val + e.val, 0, 256 * k.val + 128 * nn.val] : Fin 3 → ℕ) a + S1x2x128.size a ≤ S76x2x768.size a := by
  revert k c nn h e; decide +kernel
/-- A tile of the result lies in the block. -/
theorem inbY (k : Fin 3) : ∀ a, (![0, 256 * k.val] : Fin 2 → ℕ) a + S48x256.size a ≤ S48x768.size a := by
  revert k; decide

section Loads
variable (arg2 : Memref sig .tc .vmem S768x2432 .i8) (arg7 : Memref sig .tc .vmem S19x48x256 .bf16)
  (arg8 : Memref sig .tc .vmem S76x2x768 .bf16)
  (X2 : BufTy.Contents (Elt F) arg2.view.ty) (X7 : BufTy.Contents (Elt F) arg7.view.ty) (X8 : BufTy.Contents (Elt F) arg8.view.ty)

/-- Chunk `c` of the permuted activations. -/
def loadX (c : Fin 19) : Vec F S1x48x256 .bf16 :=
  View.readAt (Elt F) arg7.view (Rect.unit (s := S19x48x256) ![c.val, 0, 0] S1x48x256.size (inbX c)).toLoadRect X7

/-- The packed weights of chunk `c` for half `nn` of tile `k`. -/
def loadW (k : Fin 3) (c : Fin 19) (nn : Fin 2) : Vec F S128x128 .i8 :=
  View.readAt (Elt F) arg2.view (Rect.unit (s := S768x2432) ![256 * k.val + 128 * nn.val, 128 * c.val] S128x128.size (inbW k c nn)).toLoadRect X2

/-- The block scales of chunk `c`, nibble `h`, block `e` of the chunk, for half `nn` of tile `k`. -/
def loadA (k : Fin 3) (c : Fin 19) (nn h e : Fin 2) : Vec F S1x2x128 .bf16 :=
  View.readAt (Elt F) arg8.view (Rect.unit (s := S76x2x768) ![38 * h.val + 2 * c.val + e.val, 0, 256 * k.val + 128 * nn.val] S1x2x128.size (inbA k c nn h e)).toLoadRect X8

/-- What tile `k` of the loop stores. -/
def tileVal (v21 v40 : IVec S32x128 8) (v59 : IVec S32x128 1) (k : Fin 3) : FVec F S48x256 .bf16 :=
  truncf .bf16 (accOf v21 v40 v59 (loadX arg7 X7) (loadW arg2 X2 k) (loadA arg8 X8 k) 19 (Nat.le_refl 19)) bitsLt_bf16_f32

end Loads

end Cert.KernelIdeal.Hand
-- ==== Proof.KernelIdeal.Fill.lean ====
/-
What a grid point stores into its scratch buffers before the tile loop, written once for a general store.

At its first step the kernel permutes the activations of every chunk and keeps them, and copies the
scale table. At every step it rebuilds the block scales of its 768 output features: six lane tiles, ten
groups of rows each. The program has these stores written out one by one; here they are functions of the
chunk, the lane tile and the row group.
-/
module

public import proofs.«01_k».proof.Proof.Gen.KernelIdeal.Loops
public import proofs.«01_k».proof.Proof.KernelIdeal.Setup

@[expose] public section
noncomputable section

namespace Cert.KernelIdeal.Hand

open Idealize.ShloMosaic Idealize.ShloMosaic.TcCoe Idealize.ShloMosaic.Tactic
open Cert.KernelIdeal.Gen

variable {F : FTy → Type} [FloatOps F]

/-! ## Integer helpers -/

/-- Floor division of every element by a word, as the program spells it: the truncated quotient, less one where the
    signs differ and the remainder is not zero. -/
def floorDivV (s : Shape) (x : IVec s 32) (d : BitVec 32) : IVec s 32 :=
  select (andi (cmpi .ne (subi (extui 32 (cmpi .sgt x (broadcast s 0#32)) natLt_1_32) (extui 32 (cmpi .slt x (broadcast s 0#32)) natLt_1_32))
      (broadcast s (Scalar.subi (Scalar.extui (Scalar.cmpi .sgt d 0#32)) (Scalar.extui (Scalar.cmpi .slt d 0#32)))))
      (cmpi .ne (remsi x (broadcast s d)) (broadcast s 0#32)))
    (subi (divsi x (broadcast s d)) (broadcast s 1#32)) (divsi x (broadcast s d))

/-- The remainder of every element by a word, as the program spells it: the truncated one, with the divisor added where
    its sign differs and it is not zero. -/
def modV (s : Shape) (hs : Shape.Broadcasts s s) (x : IVec s 32) (d : BitVec 32) : IVec s 32 :=
  let d' : BitVec 32 := Scalar.select (Scalar.cmpi .eq d 0#32) 1#32 d
  let r : IVec s 32 := remsi x (broadcast s d')
  select (andi (xori (cmpi .slt r (broadcast s 0#32)) (broadcastTo s (broadcast s (Scalar.cmpi .slt d' 0#32)) hs)) (cmpi .ne r (broadcast s 0#32)))
    (addi r (broadcast s d')) r

/-- The remainder of a word by a word, as the program spells it. -/
def modW (x d : BitVec 32) : BitVec 32 :=
  let d' : BitVec 32 := Scalar.select (Scalar.cmpi .eq d 0#32) 1#32 d
  let r : BitVec 32 := Scalar.remsi x d'
  Scalar.select (Scalar.andi (Scalar.xori (Scalar.cmpi .slt r 0#32) (Scalar.cmpi .slt d' 0#32)) (Scalar.cmpi .ne r 0#32)) (Scalar.addi r d') r

/-! ## The tables -/

/-- A table of sixteen bytes, in the first sixteen rows. -/
def byteTable (w0 w1 w2 w3 : BitVec 32) : IVec S32x128 8 :=
  let row : IVec S8x128 32 := iota .tc S8x128 32 [0] iota_S8x128_d0_w32
  bitcast S32x128 8
    (select (cmpi .eq row (broadcast S8x128 3#32)) (broadcast S8x128 w3)
      (select (cmpi .eq row (broadcast S8x128 2#32)) (broadcast S8x128 w2)
        (select (cmpi .eq row (broadcast S8x128 1#32)) (broadcast S8x128 w1)
          (select (cmpi .eq row (broadcast S8x128 0#32)) (broadcast S8x128 w0) (broadcast S8x128 0#32)))))
    bitcasts_S8x128_w32_S32x128_w8

/-- The low bytes of the sixteen table entries. -/
def tabLo : IVec S32x128 8 := byteTable 3389403776#32 12205458#32 2910594467#32 2151223522#32

/-- The high bytes of the sixteen table entries. -/
def tabHi : IVec S32x128 8 := byteTable 3200237503#32 12435134#32 1044266557#32 1061109566#32

/-- The odd rows. -/
def oddSel : IVec S32x128 1 :=
  cmpi .eq (modV S32x128 broadcasts_S32x128_S32x128 (iota .tc S32x128 32 [0] iota_S32x128_d0_w32) 2#32) (broadcast S32x128 1#32)

/-! ## The block scales -/

/-- The scale group at which each lane's 76 blocks begin, from the tile's first group. -/
def firstV : IVec S8x128 32 :=
  floorDivV S8x128 (muli (iota .tc S8x128 32 [1] iota_S8x128_d1_w32) (broadcast S8x128 76#32)) 256#32

/-- The block of each lane at which its next scale group begins. -/
def bstarV : IVec S8x128 32 :=
  subi (muli (broadcast S8x128 256#32) (addi firstV (broadcast S8x128 1#32)))
    (muli (iota .tc S8x128 32 [1] iota_S8x128_d1_w32) (broadcast S8x128 76#32))

/-- The first scale group of lane tile `t` of grid point `i`, within its row of the table. -/
def offW (i : grid0.Coords) (t : BitVec 32) : BitVec 32 :=
  modW (Scalar.muli (Scalar.addi (Scalar.muli (BitVec.ofNat 32 (i 0).val) 6#32) t) 38#32) 128#32

/-- A lookup by lane, in the first of two rows below 128 and in the second from there. -/
def pickV (row0 row1 : FVec F S8x128 .f32) (ix : IVec S8x128 32) : FVec F S8x128 .f32 :=
  select (cmpi .slt ix (broadcast S8x128 128#32))
    (dynamicGather 1 row0 (shapeCast S8x128 (shapeCast S8x128x1 (andi ix (broadcast S8x128 127#32)) shapeCasts_S8x128_S8x128x1) shapeCasts_S8x128x1_S8x128))
    (dynamicGather 1 row1 (shapeCast S8x128 (shapeCast S8x128x1 (andi ix (broadcast S8x128 127#32)) shapeCasts_S8x128_S8x128x1) shapeCasts_S8x128x1_S8x128))

/-- A row of the scale table on all eight sublanes. -/
def rowV (v : Vec F S1x128 .f32) : FVec F S8x128 .f32 :=
  broadcastTo S8x128 (shapeCast S1x128 v shapeCasts_S1x128_S1x128) broadcasts_S1x128_S8x128

section Loads
variable (i : grid0.Coords)
  (arg1 : Memref sig .tc .vmem S48x4864 .bf16) (arg3 : Memref sig .tc .vmem S76x768 .i8) (arg4 : Memref sig .tc .vmem S75x128 .f32)
  (arg5 : Memref sig .tc .smem S1 .f32) (arg9 : Memref sig .tc .vmem S75x128 .f32)
  (X1 : BufTy.Contents (Elt F) arg1.view.ty) (X3 : BufTy.Contents (Elt F) arg3.view.ty) (X4 : BufTy.Contents (Elt F) arg4.view.ty)
  (X5 : BufTy.Contents (Elt F) arg5.view.ty) (X9 : BufTy.Contents (Elt F) arg9.view.ty)

/-- The first row of the scale table that lane tile `t` reads. -/
def loadRow0 (t : Fin 6) : Vec F S1x128 .f32 :=
  View.readAt (Elt F) arg9.view (Rect.unit (s := S75x128) (k0_off1 i (BitVec.ofNat 32 t.val)) S1x128.size (k0_off1_inb i t)).toLoadRect X9

/-- The second. -/
def loadRow1 (t : Fin 6) : Vec F S1x128 .f32 :=
  View.readAt (Elt F) arg9.view (Rect.unit (s := S75x128) (k0_off2 i (BitVec.ofNat 32 t.val)) S1x128.size (k0_off2_inb i t)).toLoadRect X9

/-- The offset that every block scale has added to it. -/
def loadOff : Elt F .f32 :=
  View.readAt (Elt F) arg5.view (Rect.unit (s := S1) ![0] S1.size inb_S1_S1_0).toLoadRect X5 (Shape.Idx.first (numel1_S1.symm ▸ Nat.one_pos))

/-- The scales of the lanes' first groups. -/
def scaleA (t : Fin 6) : FVec F S8x128 .f32 :=
  pickV (rowV (loadRow0 i arg9 X9 t)) (rowV (loadRow1 i arg9 X9 t)) (addi firstV (broadcast S8x128 (offW i (BitVec.ofNat 32 t.val))))

/-- The scales of the lanes' next groups. -/
def scaleB (t : Fin 6) : FVec F S8x128 .f32 :=
  pickV (rowV (loadRow0 i arg9 X9 t)) (rowV (loadRow1 i arg9 X9 t))
    (addi (addi firstV (broadcast S8x128 (offW i (BitVec.ofNat 32 t.val)))) (broadcast S8x128 1#32))

/-- The scales of eight blocks of each lane, from block `b`. -/
def scaleSel (t : Fin 6) (b : BitVec 32) : FVec F S8x128 .f32 :=
  select (cmpi .slt (addi (iota .tc S8x128 32 [0] iota_S8x128_d0_w32) (broadcast S8x128 b)) bstarV) (scaleA i arg9 X9 t) (scaleB i arg9 X9 t)

/-- Eight rows of codes lie in the block. -/
theorem inbC8 (t : Fin 6) (g : Fin 9) : ∀ a, (![8 * g.val, 128 * t.val] : Fin 2 → ℕ) a + S8x128.size a ≤ S76x768.size a := by
  revert t g; decide
/-- So do the last four. -/
theorem inbC4 (t : Fin 6) : ∀ a, (![72, 128 * t.val] : Fin 2 → ℕ) a + S4x128.size a ≤ S76x768.size a := by
  revert t; decide
/-- Eight rows of scales lie in the scratch. -/
theorem inbA8 (t : Fin 6) (g : Fin 9) : ∀ a, (![8 * g.val, 0, 128 * t.val] : Fin 3 → ℕ) a + S8x2x128.size a ≤ S76x2x768.size a := by
  revert t g; decide
/-- So do the last four. -/
theorem inbA4 (t : Fin 6) : ∀ a, (![72, 0, 128 * t.val] : Fin 3 → ℕ) a + S4x2x128.size a ≤ S76x2x768.size a := by
  revert t; decide

/-- The block scales of row group `g`, lane tile `t`. -/
def am8 (t : Fin 6) (g : Fin 9) : FVec F S8x128 .bf16 :=
  truncf .bf16 (addf (mulf
    (sitofp .f32 (shapeCast S8x128 (View.readAt (Elt F) arg3.view (Rect.unit (s := S76x768) ![8 * g.val, 128 * t.val] S8x128.size (inbC8 t g)).toLoadRect X3 : Vec F S8x128 .i8) shapeCasts_S8x128_S8x128 : IVec S8x128 8))
    (scaleSel i arg9 X9 t (BitVec.ofNat 32 (8 * g.val)))) (broadcast S8x128 (loadOff arg5 X5))) bitsLt_bf16_f32

/-- The last four. -/
def am4 (t : Fin 6) : FVec F S4x128 .bf16 :=
  truncf .bf16 (addf (mulf
    (sitofp .f32 (shapeCast S4x128 (View.readAt (Elt F) arg3.view (Rect.unit (s := S76x768) ![72, 128 * t.val] S4x128.size (inbC4 t)).toLoadRect X3 : Vec F S4x128 .i8) shapeCasts_S4x128_S4x128 : IVec S4x128 8))
    (extractStridedSlice S4x128 ![0, 0] (scaleSel i arg9 X9 t 72#32) slices_S8x128_o0_0_S4x128)) (broadcast S4x128 (loadOff arg5 X5))) bitsLt_bf16_f32

/-- Store `g` of lane tile `t`: the block scales twice, as pairs. -/
def amPiece (t : Fin 6) (g : Fin 10) : View.Piece (Elt F) S76x2x768 .bf16 :=
  if h : g.val < 9 then
    ⟨Rect.unit (s := S76x2x768) ![8 * g.val, 0, 128 * t.val] S8x2x128.size (inbA8 t ⟨g.val, h⟩),
      interleaveRows S8x2x128 (shapeCast S8x1x128 (am8 i arg3 arg5 arg9 X3 X5 X9 t ⟨g.val, h⟩) shapeCasts_S8x128_S8x1x128)
        (shapeCast S8x1x128 (am8 i arg3 arg5 arg9 X3 X5 X9 t ⟨g.val, h⟩) shapeCasts_S8x128_S8x1x128) bitcasts_S8x2x128_w16_S8x1x128_w32⟩
  else
    ⟨Rect.unit (s := S76x2x768) ![72, 0, 128 * t.val] S4x2x128.size (inbA4 t),
      interleaveRows S4x2x128 (shapeCast S4x1x128 (am4 i arg3 arg5 arg9 X3 X5 X9 t) shapeCasts_S4x128_S4x1x128)
        (shapeCast S4x1x128 (am4 i arg3 arg5 arg9 X3 X5 X9 t) shapeCasts_S4x128_S4x1x128) bitcasts_S4x2x128_w16_S4x1x128_w32⟩

/-- The sixty stores of block scales, the last one first. -/
def amPieces : List (View.Piece (Elt F) S76x2x768 .bf16) :=
  List.ofFn fun n : Fin 60 => amPiece i arg3 arg5 arg9 X3 X5 X9 ⟨(59 - n.val) / 10, by omega⟩ ⟨(59 - n.val) % 10, by omega⟩

/-! ## The activations -/

/-- The permutation of a chunk's 128 columns: even columns of each 32 first, odd ones after. -/
def permM : FVec F S128x128 .bf16 :=
  let src : IVec S128x128 32 := iota .tc S128x128 32 [0] iota_S128x128_d0_w32
  let dst : IVec S128x128 32 := iota .tc S128x128 32 [1] iota_S128x128_d1_w32
  truncf .bf16 (sitofp .f32 (extui 32 (cmpi .eq src
    (addi (addi (muli (floorDivV S128x128 dst 32#32) (broadcast S128x128 32#32))
        (muli (modV S128x128 broadcasts_S128x128_S128x128 dst 16#32) (broadcast S128x128 2#32)))
      (floorDivV S128x128 (modV S128x128 broadcasts_S128x128_S128x128 dst 32#32) 16#32))) natLt_1_32)) bitsLt_bf16_f32

/-- A chunk of the activations lies in the input. -/
theorem inbXin (c : Fin 19) (h : Fin 2) : ∀ a, (![0, 2432 * h.val + 128 * c.val] : Fin 2 → ℕ) a + S48x128.size a ≤ S48x4864.size a := by
  revert c h; decide
/-- And where it goes lies in the scratch. -/
theorem inbXp (c : Fin 19) (h : Fin 2) : ∀ a, (![c.val, 0, 128 * h.val] : Fin 3 → ℕ) a + S1x48x128.size a ≤ S19x48x256.size a := by
  revert c h; decide

/-- Chunk `c` of the activations of half `h`, permuted, as it is stored. -/
def xpPiece (c : Fin 19) (h : Fin 2) : View.Piece (Elt F) S19x48x256 .bf16 :=
  ⟨Rect.unit (s := S19x48x256) ![c.val, 0, 128 * h.val] S1x48x128.size (inbXp c h),
    shapeCast S1x48x128 (truncf .bf16 (matmul dot_S48x128_S128x128_S48x128_1_0_0_1_n_n none
      (shapeCast S48x128 (View.readAt (Elt F) arg1.view (Rect.unit (s := S48x4864) ![0, 2432 * h.val + 128 * c.val] S48x128.size (inbXin c h)).toLoadRect X1) shapeCasts_S48x128_S48x128 : FVec F S48x128 .bf16)
      permM (constant S48x128 .f32 0x00000000#32) : FVec F S48x128 .f32) bitsLt_bf16_f32) shapeCasts_S48x128_S1x48x128⟩

/-- The thirty-eight stores of permuted activations, the last one first. -/
def xpPieces : List (View.Piece (Elt F) S19x48x256 .bf16) :=
  List.ofFn fun n : Fin 38 => xpPiece arg1 X1 ⟨(37 - n.val) / 2, by omega⟩ ⟨(37 - n.val) % 2, by omega⟩

/-- The copy of the scale table. -/
def scalePieces : List (View.Piece (Elt F) S75x128 .f32) :=
  [⟨Rect.unit (s := S75x128) ![0, 0] S75x128.size inb_S75x128_S75x128_0_0,
    shapeCast S75x128 (shapeCast S75x128 (View.readAt (Elt F) arg4.view (Rect.unit (s := S75x128) ![0, 0] S75x128.size inb_S75x128_S75x128_0_0).toLoadRect X4 : Vec F S75x128 .f32) shapeCasts_S75x128_S75x128 : FVec F S75x128 .f32) shapeCasts_S75x128_S75x128⟩]

end Loads

end Cert.KernelIdeal.Hand
-- ==== Proof.KernelIdeal.Pieces.lean ====
/-
The stores of a grid point, as the general stores of the two modules before it.

Each equation here holds by unfolding both sides: the run of a grid point names the values it stored one
by one, and the general form names them as functions of where they are stored.
-/
module

public import proofs.«01_k».proof.Proof.KernelIdeal.Tile
public import proofs.«01_k».proof.Proof.KernelIdeal.Fill
public import proofs.«01_k».proof.Proof.KernelIdeal.RunA
public import proofs.«01_k».proof.Proof.KernelIdeal.RunB

@[expose] public section
noncomputable section

namespace Cert.KernelIdeal.Hand

open Idealize.ShloMosaic Idealize.ShloMosaic.TcCoe Idealize.ShloMosaic.Tactic
open Cert.KernelIdeal.Gen

variable {F : FTy → Type} [FloatOps F]

section Loop
variable (𝒱 : Variants) (c : Dev nD) (bd : Option 𝒱.V) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x2x768 .bf16) (harg8 : arg8.IsWhole) (arg9 : Memref sig .tc .vmem S75x128 .f32) (harg9 : arg9.IsWhole)
  (v21 : IVec S32x128 8) (v40 : IVec S32x128 8) (v59 : IVec S32x128 1) (X_arg2 : BufTy.Contents (Elt F) arg2.view.ty) (X_arg7 : BufTy.Contents (Elt F) arg7.view.ty) (X_arg8 : BufTy.Contents (Elt F) arg8.view.ty)

/-- The store of tile `k`. -/
def tilePiece (k : Fin 3) : View.Piece (Elt F) S48x768 .bf16 :=
  ⟨Rect.unit (s := S48x768) ![0, 256 * k.val] S48x256.size (inbY k), tileVal arg2 arg7 arg8 X_arg2 X_arg7 X_arg8 v21 v40 v59 k⟩

/-- The loop's first trip writes the first tile. -/
theorem trip0 : tripL_k0_t1 (F := F) 𝒱 c bd i arg1 harg1 arg2 harg2 arg3 harg3 arg4 harg4 arg5 harg5 arg6 harg6 arg7 harg7 arg8 harg8 arg9 harg9 v21 v40 v59 X_arg2 X_arg7 X_arg8 ⟨0, by decide⟩
    = [tilePiece arg2 arg7 arg8 v21 v40 v59 X_arg2 X_arg7 X_arg8 0] := by
  sl_kernel_rfl

/-- Its second trip writes the second. -/
theorem trip1 : tripL_k0_t1 (F := F) 𝒱 c bd i arg1 harg1 arg2 harg2 arg3 harg3 arg4 harg4 arg5 harg5 arg6 harg6 arg7 harg7 arg8 harg8 arg9 harg9 v21 v40 v59 X_arg2 X_arg7 X_arg8 ⟨1, by decide⟩
    = [tilePiece arg2 arg7 arg8 v21 v40 v59 X_arg2 X_arg7 X_arg8 1] := by
  sl_kernel_rfl

/-- Its third trip writes the third. -/
theorem trip2 : tripL_k0_t1 (F := F) 𝒱 c bd i arg1 harg1 arg2 harg2 arg3 harg3 arg4 harg4 arg5 harg5 arg6 harg6 arg7 harg7 arg8 harg8 arg9 harg9 v21 v40 v59 X_arg2 X_arg7 X_arg8 ⟨2, by decide⟩
    = [tilePiece arg2 arg7 arg8 v21 v40 v59 X_arg2 X_arg7 X_arg8 2] := by
  sl_kernel_rfl

/-- The stores of the whole loop, the last one first. -/
theorem loop_pieces : pb_k0_t1 (F := F) 𝒱 c bd i arg1 harg1 arg2 harg2 arg3 harg3 arg4 harg4 arg5 harg5 arg6 harg6 arg7 harg7 arg8 harg8 arg9 harg9 v21 v40 v59 X_arg2 X_arg7 X_arg8 k0_t1_loop.trips
    = [tilePiece arg2 arg7 arg8 v21 v40 v59 X_arg2 X_arg7 X_arg8 2, tilePiece arg2 arg7 arg8 v21 v40 v59 X_arg2 X_arg7 X_arg8 1,
       tilePiece arg2 arg7 arg8 v21 v40 v59 X_arg2 X_arg7 X_arg8 0] := by
  have h2 := pb_k0_t1_succ (F := F) 𝒱 c bd i arg1 harg1 arg2 harg2 arg3 harg3 arg4 harg4 arg5 harg5 arg6 harg6 arg7 harg7 arg8 harg8 arg9 harg9 v21 v40 v59 X_arg2 X_arg7 X_arg8 ⟨2, by decide⟩
  have h1 := pb_k0_t1_succ (F := F) 𝒱 c bd i arg1 harg1 arg2 harg2 arg3 harg3 arg4 harg4 arg5 harg5 arg6 harg6 arg7 harg7 arg8 harg8 arg9 harg9 v21 v40 v59 X_arg2 X_arg7 X_arg8 ⟨1, by decide⟩
  have h0 := pb_k0_t1_succ (F := F) 𝒱 c bd i arg1 harg1 arg2 harg2 arg3 harg3 arg4 harg4 arg5 harg5 arg6 harg6 arg7 harg7 arg8 harg8 arg9 harg9 v21 v40 v59 X_arg2 X_arg7 X_arg8 ⟨0, by decide⟩
  rw [trip0] at h0
  rw [trip1] at h1
  rw [trip2] at h2
  have e : k0_t1_loop.trips = 2 + 1 := by decide
  rw [e]
  refine h2.trans ?_
  rw [show (⟨2, by decide⟩ : Fin k0_t1_loop.trips).val = 1 + 1 from rfl]
  refine (congrArg _ (h1.trans ?_)).trans rfl
  exact congrArg _ h0

end Loop

section Run
variable (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x2x768 .bf16) (harg8 : arg8.IsWhole) (arg9 : Memref sig .tc .vmem S75x128 .f32) (harg9 : arg9.IsWhole)
  (x0 : Vec F S48x4864 .bf16) (x1 : Vec F S768x2432 .i8) (x2 : Vec F S76x768 .i8) (x3 : Vec F S75x128 .f32) (x4 : Vec F S1 .f32)

/-- What a later point leaves in the output's buffer: the loop's pieces. -/
theorem runB_out (hc0 : ¬cond0_0 i) (xs0 : Vec F S19x48x256 .bf16) (xs2 : Vec F S75x128 .f32) :
    (kernelRun0_B c i arg1 harg1 arg2 harg2 arg3 harg3 arg4 harg4 arg5 harg5 arg6 harg6 arg7 harg7 arg8 harg8 arg9 harg9 hc0 x0 x1 x2 x3 x4 xs0 xs2).1
      = pb_k0_t1 (F := F) Variants.none c none i arg1 harg1 arg2 harg2 arg3 harg3 arg4 harg4 arg5 harg5 arg6 harg6 arg7 harg7 arg8 harg8 arg9 harg9 tabLo tabHi oddSel (harg2.unread x1) (harg7.unread xs0)
          (arg8.view.writes (Elt F) arg8.view.junk (amPieces i arg3 arg5 arg9 (harg3.unread x2) (harg5.unread x4) (harg9.unread xs2))) k0_t1_loop.trips := by
  sl_kernel_rfl

/-- What the first point leaves in the output's buffer: the loop's pieces. -/
theorem runA_out (hc0 : cond0_0 i) :
    (kernelRun0_A c i arg1 harg1 arg2 harg2 arg3 harg3 arg4 harg4 arg5 harg5 arg6 harg6 arg7 harg7 arg8 harg8 arg9 harg9 hc0 x0 x1 x2 x3 x4).1
      = pb_k0_t1 (F := F) Variants.none c none i arg1 harg1 arg2 harg2 arg3 harg3 arg4 harg4 arg5 harg5 arg6 harg6 arg7 harg7 arg8 harg8 arg9 harg9 tabLo tabHi oddSel (harg2.unread x1)
          (arg7.view.writes (Elt F) arg7.view.junk (xpPieces arg1 (harg1.unread x0)))
          (arg8.view.writes (Elt F) arg8.view.junk (amPieces i arg3 arg5 arg9 (harg3.unread x2) (harg5.unread x4)
            (arg9.view.writes (Elt F) arg9.view.junk (scalePieces arg4 (harg4.unread x3))))) k0_t1_loop.trips := by
  sl_kernel_rfl

/-- What the first point leaves in the scratch of activations. -/
theorem runA_acts (hc0 : cond0_0 i) : (kernelRun0_A c i arg1 harg1 arg2 harg2 arg3 harg3 arg4 harg4 arg5 harg5 arg6 harg6 arg7 harg7 arg8 harg8 arg9 harg9 hc0 x0 x1 x2 x3 x4).2.1 = xpPieces arg1 (harg1.unread x0) := by
  sl_kernel_rfl

/-- What the first point leaves in the scratch of scales. -/
theorem runA_scales (hc0 : cond0_0 i) : (kernelRun0_A c i arg1 harg1 arg2 harg2 arg3 harg3 arg4 harg4 arg5 harg5 arg6 harg6 arg7 harg7 arg8 harg8 arg9 harg9 hc0 x0 x1 x2 x3 x4).2.2.1 = scalePieces arg4 (harg4.unread x3) := by
  sl_kernel_rfl

end Run

end Cert.KernelIdeal.Hand
-- ==== Proof.KernelIdeal.Scales.lean ====
/-
The block scales a grid point stores, read back.

Lane `l` of lane tile `t` is output feature `768 i + 128 t + l`; its 76 blocks lie in the scale groups from
`((6 i + t) * 38) + 76 l / 256` on, and cross into the next group at one block at most. The stored scale of
block `b` is the feature's code by the group's scale, plus the offset.
-/
module

public import proofs.«01_k».proof.Proof.KernelIdeal.Fill
public import Idealize.ShloMosaic.Lib.ValueLayout
public import Idealize.ShloMosaic.Lib.ValueIdx
public import Idealize.ShloMosaic.Lib.WholeRead
public import Idealize.ShloMosaic.Lib.Writes

@[expose] public section
noncomputable section

namespace Cert.KernelIdeal.Hand

open Idealize.ShloMosaic Idealize.ShloMosaic.ValueIdx
open Cert.KernelIdeal.Gen

/-! ## The integer vectors -/

/-- The group of a feature's first block, within its lane tile. -/
theorem firstV_row (s : Fin 8) (l : Fin 128) : firstV (ix2 s l) = BitVec.ofNat 32 (76 * l.val / 256) := by
  have e : firstV (ix2 s l) = firstV (ix2 0 l) := rfl
  rw [e]; clear e s; revert l; decide +kernel

/-- The number of blocks of a feature before the next group begins. -/
theorem bstarV_row (s : Fin 8) (l : Fin 128) : bstarV (ix2 s l) = BitVec.ofNat 32 (256 * (76 * l.val / 256 + 1) - 76 * l.val) := by
  have e : bstarV (ix2 s l) = bstarV (ix2 0 l) := rfl
  rw [e]; clear e s; revert l; decide +kernel

/-- The row number of an entry. -/
theorem sublane_row (s : Fin 8) (l : Fin 128) : iota .tc S8x128 32 [0] iota_S8x128_d0_w32 (ix2 s l) = BitVec.ofNat 32 s.val := by
  have e : iota .tc S8x128 32 [0] iota_S8x128_d0_w32 (ix2 s l) = iota .tc S8x128 32 [0] iota_S8x128_d0_w32 (ix2 s 0) := rfl
  rw [e]; clear e l; revert s; decide +kernel

/-- The place of a lane tile's first group within its row of the scratch, as a word. -/
theorem offW_eq (i : grid0.Coords) (t : Fin 6) :
    offW i (BitVec.ofNat 32 t.val) = BitVec.ofNat 32 (((i 0).val * 6 + t.val) * 38 % 128) := by
  have h : ∀ (n : Fin 41) (t : Fin 6), modW (Scalar.muli (Scalar.addi (Scalar.muli (BitVec.ofNat 32 n.val) 6#32) (BitVec.ofNat 32 t.val)) 38#32) 128#32
      = BitVec.ofNat 32 ((n.val * 6 + t.val) * 38 % 128) := by decide +kernel
  exact h (i 0) t

/-- A signed comparison of small words. -/
theorem slt_small (a b : ℕ) (ha : a < 2 ^ 31) (hb : b < 2 ^ 31) :
    IntOp.cmpi .slt (BitVec.ofNat 32 a) (BitVec.ofNat 32 b) = BitVec.ofBool (decide (a < b)) := by
  unfold IntOp.cmpi
  show BitVec.ofBool (decide ((BitVec.ofNat 32 a).toInt < (BitVec.ofNat 32 b).toInt)) = _
  have h1 : (BitVec.ofNat 32 a).toNat = a := by rw [BitVec.toNat_ofNat, Nat.mod_eq_of_lt (by omega)]
  have h2 : (BitVec.ofNat 32 b).toNat = b := by rw [BitVec.toNat_ofNat, Nat.mod_eq_of_lt (by omega)]
  rw [BitVec.toInt_eq_toNat_of_lt (by omega), BitVec.toInt_eq_toNat_of_lt (by omega), h1, h2]
  congr 1
  simp

/-- A choice by a decided proposition. -/
theorem select_ofBool {α : Type} (p : Prop) [Decidable p] (a b : α) :
    Scalar.select (BitVec.ofBool (decide p)) a b = if p then a else b := by
  by_cases h : p
  · simp [h, Scalar.select]
  · simp [h, Scalar.select]

/-- Masking by 127 is the remainder by 128. -/
theorem and127 (n : ℕ) (hn : n < 2 ^ 32) : (IntOp.andi (BitVec.ofNat 32 n) 127#32).toNat % 128 = n % 128 := by
  unfold IntOp.andi
  rw [BitVec.toNat_and, BitVec.toNat_ofNat, Nat.mod_eq_of_lt hn]
  show (n &&& 127) % 128 = _
  rw [show (127 : ℕ) = 2 ^ 7 - 1 from rfl, Nat.and_two_pow_sub_one_eq_mod]
  omega

/-- The lookup by lane. -/
theorem pickV_row (row0 row1 : FVec Ideal S8x128 .f32) (ix : IVec S8x128 32) (s : Fin 8) (l : Fin 128) (n : ℕ) (hn : n < 256)
    (hix : ix (ix2 s l) = BitVec.ofNat 32 n) :
    pickV row0 row1 ix (ix2 s l) = if n < 128 then row0 (ix2 s ⟨n % 128, by omega⟩) else row1 (ix2 s ⟨n % 128, by omega⟩) := by
  have hg : ∀ row : FVec Ideal S8x128 .f32,
      dynamicGather 1 row (shapeCast S8x128 (shapeCast S8x128x1 (andi ix (broadcast S8x128 127#32)) shapeCasts_S8x128_S8x128x1) shapeCasts_S8x128x1_S8x128) (ix2 s l)
        = row (ix2 s ⟨n % 128, by omega⟩) := by
    intro row
    show row _ = row _
    congr 1
    funext b
    match b with
    | ⟨0, _⟩ => rfl
    | ⟨1, _⟩ =>
      rw [if_pos (show (⟨1, _⟩ : Fin 2) = 1 from rfl)]
      apply Fin.ext
      show ((shapeCast S8x128 (shapeCast S8x128x1 (andi ix (broadcast S8x128 127#32)) shapeCasts_S8x128_S8x128x1) shapeCasts_S8x128x1_S8x128 : IVec S8x128 32) (ix2 s l)).toNat % 128 = n % 128
      rw [shapeCast_apply _ shapeCasts_S8x128x1_S8x128 (ix2 s l) (ix3 s l 0) (by rfl),
        shapeCast_apply _ shapeCasts_S8x128_S8x128x1 (ix3 s l 0) (ix2 s l) (by rfl)]
      show (IntOp.andi (ix (ix2 s l)) 127#32).toNat % 128 = _
      rw [hix, and127 n (by omega)]
  unfold pickV
  rw [select_apply, hg, hg]
  show Scalar.select (IntOp.cmpi .slt (ix (ix2 s l)) 128#32) _ _ = _
  rw [hix, show (128#32 : BitVec 32) = BitVec.ofNat 32 128 from rfl, slt_small n 128 (by omega) (by omega), select_ofBool]

/-! ## The stored scales -/

section Loads
variable (i : grid0.Coords)
  (arg3 : Memref sig .tc .vmem S76x768 .i8) (arg5 : Memref sig .tc .smem S1 .f32) (arg9 : Memref sig .tc .vmem S75x128 .f32)
  (X3 : BufTy.Contents (Elt Ideal) arg3.view.ty) (X5 : BufTy.Contents (Elt Ideal) arg5.view.ty) (X9 : BufTy.Contents (Elt Ideal) arg9.view.ty)
  (code : Fin 76 → Fin 768 → BitVec 8) (scale : ℕ → EReal) (off : EReal)
  (h3 : ∀ b n, arg3.view.read (Elt Ideal) X3 (ix2 b n) = code b n)
  (h5 : arg5.view.read (Elt Ideal) X5 (ix1 0) = off)
  (h9 : ∀ (r : Fin 75) (l : Fin 128), arg9.view.read (Elt Ideal) X9 (ix2 r l) = scale (128 * r.val + l.val))

include h9 in
/-- The scale of a feature's first group. -/
theorem rowV0_row (t : Fin 6) (s : Fin 8) (l : Fin 128) :
    rowV (loadRow0 i arg9 X9 t) (ix2 s l) = scale (128 * (((i 0).val * 6 + t.val) * 38 / 128) + l.val) := by
  have hi : (i 0).val < 41 := (i 0).isLt
  unfold rowV
  rw [broadcastTo_1b_ab_apply, shapeCast_apply _ shapeCasts_S1x128_S1x128 (ix2 0 l) (ix2 0 l) rfl]
  refine Eq.trans ?_ (h9 ⟨((i 0).val * 6 + t.val) * 38 / 128, by omega⟩ l)
  unfold loadRow0
  rw [View.readAt_apply]
  congr 1
  funext a
  match a with
  | ⟨0, _⟩ =>
    apply Fin.ext
    show k0_off1 i (BitVec.ofNat 32 t.val) 0 + 1 * 0 = ((i 0).val * 6 + t.val) * 38 / 128
    rw [k0_off1_eq]; rfl
  | ⟨1, _⟩ =>
    apply Fin.ext
    show k0_off1 i (BitVec.ofNat 32 t.val) 1 + 1 * l.val = l.val
    rw [k0_off1_eq]; show 0 + 1 * l.val = l.val; omega

include h9 in
/-- The scale of its second group. -/
theorem rowV1_row (t : Fin 6) (s : Fin 8) (l : Fin 128) :
    rowV (loadRow1 i arg9 X9 t) (ix2 s l) = scale (128 * (((i 0).val * 6 + t.val) * 38 / 128 + 1) + l.val) := by
  have hi : (i 0).val < 41 := (i 0).isLt
  unfold rowV
  rw [broadcastTo_1b_ab_apply, shapeCast_apply _ shapeCasts_S1x128_S1x128 (ix2 0 l) (ix2 0 l) rfl]
  refine Eq.trans ?_ (h9 ⟨((i 0).val * 6 + t.val) * 38 / 128 + 1, by omega⟩ l)
  unfold loadRow1
  rw [View.readAt_apply]
  congr 1
  funext a
  match a with
  | ⟨0, _⟩ =>
    apply Fin.ext
    show k0_off2 i (BitVec.ofNat 32 t.val) 0 + 1 * 0 = ((i 0).val * 6 + t.val) * 38 / 128 + 1
    rw [k0_off2_eq]; rfl
  | ⟨1, _⟩ =>
    apply Fin.ext
    show k0_off2 i (BitVec.ofNat 32 t.val) 1 + 1 * l.val = l.val
    rw [k0_off2_eq]; show 0 + 1 * l.val = l.val; omega

include h9 in
/-- A lookup at a group counted from the tile's first reads that group's scale. -/
theorem pick_scale (t : Fin 6) (ix : IVec S8x128 32) (s : Fin 8) (l : Fin 128) (f : ℕ) (hf : f < 128)
    (hix : ix (ix2 s l) = BitVec.ofNat 32 (((i 0).val * 6 + t.val) * 38 % 128 + f)) :
    pickV (rowV (loadRow0 i arg9 X9 t)) (rowV (loadRow1 i arg9 X9 t)) ix (ix2 s l) = scale (((i 0).val * 6 + t.val) * 38 + f) := by
  rw [pickV_row _ _ ix s l _ (by omega) hix, rowV0_row i arg9 X9 scale h9, rowV1_row i arg9 X9 scale h9]
  split
  · congr 1
    show 128 * (((i 0).val * 6 + t.val) * 38 / 128) + (((i 0).val * 6 + t.val) * 38 % 128 + f) % 128 = _
    omega
  · congr 1
    show 128 * (((i 0).val * 6 + t.val) * 38 / 128 + 1) + (((i 0).val * 6 + t.val) * 38 % 128 + f) % 128 = _
    omega

include h9 in
/-- The scales of eight blocks. -/
theorem scaleSel_row (t : Fin 6) (b : ℕ) (hb : b ≤ 72) (s : Fin 8) (l : Fin 128) :
    scaleSel i arg9 X9 t (BitVec.ofNat 32 b) (ix2 s l)
      = scale ((((768 * (i 0).val + 128 * t.val + l.val) * 76) + (b + s.val)) / 256) := by
  have hix : (addi firstV (broadcast S8x128 (offW i (BitVec.ofNat 32 t.val)))) (ix2 s l)
      = BitVec.ofNat 32 (((i 0).val * 6 + t.val) * 38 % 128 + 76 * l.val / 256) := by
    show IntOp.addi (firstV (ix2 s l)) (offW i (BitVec.ofNat 32 t.val)) = _
    rw [firstV_row, offW_eq]
    unfold IntOp.addi
    rw [← BitVec.ofNat_add, Nat.add_comm]
  have hA : scaleA i arg9 X9 t (ix2 s l) = scale (((i 0).val * 6 + t.val) * 38 + 76 * l.val / 256) :=
    pick_scale i arg9 X9 scale h9 t _ s l _ (by omega) hix
  have hB : scaleB i arg9 X9 t (ix2 s l) = scale (((i 0).val * 6 + t.val) * 38 + (76 * l.val / 256 + 1)) := by
    refine pick_scale i arg9 X9 scale h9 t _ s l _ (by omega) ?_
    show IntOp.addi ((addi firstV (broadcast S8x128 (offW i (BitVec.ofNat 32 t.val)))) (ix2 s l)) (BitVec.ofNat 32 1) = _
    rw [hix]
    unfold IntOp.addi
    rw [← BitVec.ofNat_add]; rfl
  unfold scaleSel
  rw [select_apply, hA, hB]
  show Scalar.select (IntOp.cmpi .slt (IntOp.addi (iota .tc S8x128 32 [0] iota_S8x128_d0_w32 (ix2 s l)) (BitVec.ofNat 32 b)) (bstarV (ix2 s l))) _ _ = _
  unfold IntOp.addi
  rw [sublane_row, ← BitVec.ofNat_add, bstarV_row, slt_small _ _ (by omega) (by omega), select_ofBool]
  split
  · congr 1
    omega
  · congr 1
    omega

/-- The block scale of block `b` of the point's feature `n`. -/
def scaleAt (b : Fin 76) (n : Fin 768) : EReal :=
  FloatOps.sitofp (F := Ideal) .f32 (code b n) * scale (((768 * (i 0).val + n.val) * 76 + b.val) / 256) + off

include h5 in
/-- The offset that the kernel reads. -/
theorem loadOff_eq : loadOff (F := Ideal) arg5 X5 = off := by
  refine Eq.trans ?_ h5
  unfold loadOff
  rw [View.readAt_apply]
  congr 1
  funext a
  match a with
  | ⟨0, _⟩ => exact Subsingleton.elim (α := Fin 1) _ _

include h3 h5 h9 in
/-- Eight block scales of a feature. -/
theorem am8_row (t : Fin 6) (g : Fin 9) (s : Fin 8) (l : Fin 128) :
    am8 i arg3 arg5 arg9 X3 X5 X9 t g (ix2 s l)
      = scaleAt i code scale off ⟨8 * g.val + s.val, by omega⟩ ⟨128 * t.val + l.val, by omega⟩ := by
  unfold am8
  rw [truncf_apply, addf_apply, mulf_apply, broadcast_apply, loadOff_eq arg5 X5 off h5, sitofp_apply,
    scaleSel_row i arg9 X9 scale h9 t _ (by omega), shapeCast_apply _ shapeCasts_S8x128_S8x128 (ix2 s l) (ix2 s l) rfl]
  have hc : (View.readAt (Elt Ideal) arg3.view (Rect.unit (s := S76x768) ![8 * g.val, 128 * t.val] S8x128.size (inbC8 t g)).toLoadRect X3 : Vec Ideal S8x128 .i8) (ix2 s l)
      = code ⟨8 * g.val + s.val, by omega⟩ ⟨128 * t.val + l.val, by omega⟩ := by
    refine Eq.trans ?_ (h3 _ _)
    rw [View.readAt_apply]
    congr 1
    funext a
    match a with
    | ⟨0, _⟩ => apply Fin.ext; show 8 * g.val + 1 * s.val = 8 * g.val + s.val; omega
    | ⟨1, _⟩ => apply Fin.ext; show 128 * t.val + 1 * l.val = 128 * t.val + l.val; omega
  rw [hc]
  unfold scaleAt
  congr 3
  show (_ : ℕ) / 256 = ((768 * (i 0).val + (128 * t.val + l.val)) * 76 + (8 * g.val + s.val)) / 256
  rw [Nat.add_assoc]

include h3 h5 h9 in
/-- The last four block scales of a feature. -/
theorem am4_row (t : Fin 6) (s : Fin 4) (l : Fin 128) :
    am4 i arg3 arg5 arg9 X3 X5 X9 t (ix2 s l)
      = scaleAt i code scale off ⟨72 + s.val, by omega⟩ ⟨128 * t.val + l.val, by omega⟩ := by
  unfold am4
  rw [truncf_apply, addf_apply, mulf_apply, broadcast_apply, loadOff_eq arg5 X5 off h5, sitofp_apply,
    extractStridedSlice_apply _ _ slices_S8x128_o0_0_S4x128 (ix2 s l) (ix2 ⟨s.val, by omega⟩ l) (by
      intro a; match a with | ⟨0, _⟩ => exact (Nat.zero_add _).symm | ⟨1, _⟩ => exact (Nat.zero_add _).symm),
    show (72#32 : BitVec 32) = BitVec.ofNat 32 72 from rfl,
    scaleSel_row i arg9 X9 scale h9 t _ (by omega), shapeCast_apply _ shapeCasts_S4x128_S4x128 (ix2 s l) (ix2 s l) rfl]
  have hc : (View.readAt (Elt Ideal) arg3.view (Rect.unit (s := S76x768) ![72, 128 * t.val] S4x128.size (inbC4 t)).toLoadRect X3 : Vec Ideal S4x128 .i8) (ix2 s l)
      = code ⟨72 + s.val, by omega⟩ ⟨128 * t.val + l.val, by omega⟩ := by
    refine Eq.trans ?_ (h3 _ _)
    rw [View.readAt_apply]
    congr 1
    funext a
    match a with
    | ⟨0, _⟩ => apply Fin.ext; show 72 + 1 * s.val = 72 + s.val; omega
    | ⟨1, _⟩ => apply Fin.ext; show 128 * t.val + 1 * l.val = 128 * t.val + l.val; omega
  rw [hc]
  unfold scaleAt
  congr 3
  show (_ : ℕ) / 256 = ((768 * (i 0).val + (128 * t.val + l.val)) * 76 + (72 + s.val)) / 256
  rw [Nat.add_assoc]

/-- What two equal rows interleaved hold. -/
theorem interleave_self {R n : ℕ} (x : (⟨2, ![R, n]⟩ : Shape).Idx → EReal) (hs : (⟨2, ![R, n]⟩ : Shape).ShapeCasts ⟨3, ![R, 1, n]⟩)
    (hb : (⟨3, ![R, 2, n]⟩ : Shape).Bitcasts 16 ⟨3, ![R, 1, n]⟩ 32) (a : Fin R) (e : Fin 2) (l : Fin n) :
    interleaveRows ⟨3, ![R, 2, n]⟩ (shapeCast ⟨3, ![R, 1, n]⟩ x hs) (shapeCast ⟨3, ![R, 1, n]⟩ x hs) hb (ix3 a e l) = x (ix2 a l) := by
  unfold interleaveRows
  dsimp only
  rw [ite_self]
  refine shapeCast_apply x hs _ (ix2 a l) ?_
  rw [Shape.rowMajor_val_three, Shape.rowMajor_val_two]
  show a.val * n + l.val = (a.val * 1 + e.val / 2) * n + l.val
  rw [Nat.mul_one, Nat.div_eq_of_lt e.isLt, Nat.add_zero]

include h3 h5 h9 in
/-- A written piece of the scratch of block scales holds them. -/
theorem amPiece_eq (t : Fin 6) (g : Fin 10) : ∀ x, (amPiece i arg3 arg5 arg9 X3 X5 X9 t g).2 x
    = (fun y : S76x2x768.Idx => scaleAt i code scale off (y 0) (y 2)) ((amPiece i arg3 arg5 arg9 X3 X5 X9 t g).1.emb x) := by
  by_cases hg : g.val < 9
  · have ep : amPiece i arg3 arg5 arg9 X3 X5 X9 t g = _ := dif_pos hg
    rw [ep]
    intro x
    obtain ⟨a, e', l, rfl⟩ : ∃ (a : Fin 8) (e' : Fin 2) (l : Fin 128), x = ix3 a e' l := ⟨x 0, x 1, x 2, eq_ix3 x⟩
    refine (interleave_self _ shapeCasts_S8x128_S8x1x128 bitcasts_S8x2x128_w16_S8x1x128_w32 a e' l).trans ?_
    refine (am8_row i arg3 arg5 arg9 X3 X5 X9 code scale off h3 h5 h9 t ⟨g.val, hg⟩ a l).trans ?_
    refine congrArg₂ (scaleAt i code scale off) (Fin.ext ?_) (Fin.ext ?_)
    · show 8 * g.val + a.val = 8 * g.val + 1 * a.val; omega
    · show 128 * t.val + l.val = 128 * t.val + 1 * l.val; omega
  · have ep : amPiece i arg3 arg5 arg9 X3 X5 X9 t g = _ := dif_neg hg
    rw [ep]
    intro x
    obtain ⟨a, e', l, rfl⟩ : ∃ (a : Fin 4) (e' : Fin 2) (l : Fin 128), x = ix3 a e' l := ⟨x 0, x 1, x 2, eq_ix3 x⟩
    refine (interleave_self _ shapeCasts_S4x128_S4x1x128 bitcasts_S4x2x128_w16_S4x1x128_w32 a e' l).trans ?_
    refine (am4_row i arg3 arg5 arg9 X3 X5 X9 code scale off h3 h5 h9 t a l).trans ?_
    refine congrArg₂ (scaleAt i code scale off) (Fin.ext ?_) (Fin.ext ?_)
    · show 72 + a.val = 72 + 1 * a.val; omega
    · show 128 * t.val + l.val = 128 * t.val + 1 * l.val; omega

/-- Every entry of the scratch lies in the piece of its lane tile and its eight rows. -/
theorem amPiece_mem (t : Fin 6) (g : Fin 10) (b : Fin 76) (e : Fin 2) (n : Fin 768) (ht : t.val = n.val / 128) (hb : g.val = b.val / 8) :
    (ix3 b e n : S76x2x768.Idx) ∈ (amPiece i arg3 arg5 arg9 X3 X5 X9 t g).1.set := by
  by_cases hg : g.val < 9
  · have ep : amPiece i arg3 arg5 arg9 X3 X5 X9 t g = _ := dif_pos hg
    rw [ep]
    rw [Rect.mem_set_unit]
    intro a
    match a with
    | ⟨0, _⟩ => show 8 * g.val ≤ b.val ∧ b.val < 8 * g.val + 8; omega
    | ⟨1, _⟩ => show 0 ≤ e.val ∧ e.val < 0 + 2; omega
    | ⟨2, _⟩ => show 128 * t.val ≤ n.val ∧ n.val < 128 * t.val + 128; omega
  · have ep : amPiece i arg3 arg5 arg9 X3 X5 X9 t g = _ := dif_neg hg
    rw [ep]
    rw [Rect.mem_set_unit]
    intro a
    match a with
    | ⟨0, _⟩ => show 72 ≤ b.val ∧ b.val < 72 + 4; omega
    | ⟨1, _⟩ => show 0 ≤ e.val ∧ e.val < 0 + 2; omega
    | ⟨2, _⟩ => show 128 * t.val ≤ n.val ∧ n.val < 128 * t.val + 128; omega

include h3 h5 h9 in
/-- The stored block scales, whatever the buffer held before. -/
theorem amPieces_read (arg8 : Memref sig .tc .vmem S76x2x768 .bf16) (f : BufTy.Contents (Elt Ideal) arg8.view.ty)
    (b : Fin 76) (e : Fin 2) (n : Fin 768) :
    arg8.view.read (Elt Ideal) (arg8.view.writes (Elt Ideal) f (amPieces i arg3 arg5 arg9 X3 X5 X9)) (ix3 b e n)
      = scaleAt i code scale off b n := by
  refine View.read_writes_apply_of_pieces arg8.view f (fun y : S76x2x768.Idx => scaleAt i code scale off (y 0) (y 2)) _ ?_ (ix3 b e n) ?_
  · intro p hp
    obtain ⟨k, rfl⟩ := (List.mem_ofFn' _ _).1 hp
    exact amPiece_eq i arg3 arg5 arg9 X3 X5 X9 code scale off h3 h5 h9 _ _
  · have hk : 59 - (10 * (n.val / 128) + b.val / 8) < 60 := by omega
    refine ⟨_, (List.mem_ofFn' _ _).2 ⟨⟨_, hk⟩, rfl⟩, ?_⟩
    refine amPiece_mem i arg3 arg5 arg9 X3 X5 X9 _ _ b e n ?_ ?_
    · show (59 - (59 - (10 * (n.val / 128) + b.val / 8))) / 10 = n.val / 128; omega
    · show (59 - (59 - (10 * (n.val / 128) + b.val / 8))) % 10 = b.val / 8; omega

end Loads

end Cert.KernelIdeal.Hand
-- ==== Proof.KernelIdeal.Nibbles.lean ====
/-
What the table lookups of the tile loop compute, bit by bit.

A word of four packed bytes is masked to four codes, each code picks a low and a high byte from the two
byte tables, and the bytes are put together again as sixteen-bit elements. Row `2 r` (even) or `2 r + 1`
(odd) of the packed bytes gives row `r` of the result: the bf16 word of the table at that byte's code.
-/
module

public import proofs.«01_k».proof.Proof.KernelIdeal.Tile
public import proofs.«01_k».proof.Proof.KernelIdeal.Fill
public import Idealize.ShloMosaic.Lib.BitcastFour
public import Idealize.ShloMosaic.Lib.ValueLayout
public import Mathlib.Tactic.IntervalCases

@[expose] public section
noncomputable section

namespace Cert.KernelIdeal.Hand

open Idealize.ShloMosaic Idealize.ShloMosaic.ValueIdx
open Cert.KernelIdeal.Gen

variable {F : FTy → Type} [FloatOps F]

/-- The sixteen table entries, as bf16 words. -/
def nf4bits : Fin 16 → BitVec 16 :=
  ![0xbf80#16, 0xbf32#16, 0xbf06#16, 0xbeca#16, 0xbe92#16, 0xbe3d#16, 0xbdba#16, 0x0#16,
    0x3da3#16, 0x3e25#16, 0x3e7c#16, 0x3ead#16, 0x3ee2#16, 0x3f10#16, 0x3f39#16, 0x3f80#16]

/-- The code in nibble `h` of a packed byte. -/
def nib (h : Fin 2) (b : BitVec 8) : Fin 16 :=
  ⟨if h.val = 0 then b.toNat % 16 else b.toNat / 16, by have := b.isLt; split <;> omega⟩

/-- One bit of a reinterpreted vector of two axes. -/
theorem bitcast_bit {v w R r n : Nat} (x : (⟨2, ![R, n]⟩ : Shape).Idx → BitVec v)
    (h : (⟨2, ![R, n]⟩ : Shape).Bitcasts v ⟨2, ![r, n]⟩ w) (hv : 0 < v) (a : Fin r) (l : Fin n) (q : Nat) (hq : q < w) (p : Fin R) (b : ℕ)
    (hp : a.val * w + q = p.val * v + b) (hb : b < v) :
    (bitcast ⟨2, ![r, n]⟩ w x h (ix2 a l)).getLsbD q = (x (ix2 p l)).getLsbD b := by
  have hrow : (⟨2, ![r, n]⟩ : Shape).row (ix2 a l) = a.val := rfl
  rw [bitcast_getLsbD x h (ix2 a l) q hq hv]
  have e1 : (a.val * w + q) / v = p.val := by
    rw [hp, Nat.mul_comm, Nat.mul_add_div hv, Nat.div_eq_of_lt hb, Nat.add_zero]
  have e2 : (a.val * w + q) % v = b := by
    rw [hp, Nat.mul_comm, Nat.mul_add_mod, Nat.mod_eq_of_lt hb]
  have e3 : ((⟨2, ![r, n]⟩ : Shape).row (ix2 a l) * w + q) % v = b := e2
  rw [e3]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The bits of the mask of even bytes. -/
theorem mask00ff (i : ℕ) (hi : i < 32) : (16711935#32).getLsbD i = decide (i / 8 % 2 = 0) := by
  interval_cases i <;> rfl
/-- The bits of the mask of low nibbles. -/
theorem mask0f (i : ℕ) (hi : i < 32) : (252645135#32).getLsbD i = decide (i % 8 < 4) := by
  interval_cases i <;> rfl

/-- A bit of a word shifted left by eight. -/
theorem shl8_bit (x : BitVec 32) (i : ℕ) (hi : i < 32) :
    (IntOp.shli .vector x 8#32).getLsbD i = (decide (8 ≤ i) && x.getLsbD (i - 8)) := by
  have e : IntOp.shli .vector x 8#32 = x <<< 8 := by
    unfold IntOp.shli; simp
  rw [e, BitVec.getLsbD_shiftLeft]
  by_cases h : i < 8
  · simp [h, hi]
  · simp [h, hi]; omega

/-- A bit of a word shifted right by eight. -/
theorem shr8_bit (x : BitVec 32) (i : ℕ) : (IntOp.shrui .vector x 8#32).getLsbD i = x.getLsbD (8 + i) := by
  have e : IntOp.shrui .vector x 8#32 = x >>> 8 := by
    unfold IntOp.shrui; simp
  rw [e, BitVec.getLsbD_ushiftRight]

/-- A bit of a word shifted right by four. -/
theorem shr4_bit (x : BitVec 32) (i : ℕ) : (IntOp.shrui .vector x 4#32).getLsbD i = x.getLsbD (4 + i) := by
  have e : IntOp.shrui .vector x 4#32 = x >>> 4 := by
    unfold IntOp.shrui; simp
  rw [e, BitVec.getLsbD_ushiftRight]

/-- Row `r` of the sixteen-bit elements of an even word: the bytes of row `2 r`. -/
theorem evenWord_row (lo hi : IVec S32x128 8) (r : Fin 16) (l : Fin 128) :
    bitcast S16x128 16 (evenWord lo hi) bitcasts_S8x128_w32_S16x128_w16 (ix2 r l)
      = hi (ix2 ⟨2 * r.val, by omega⟩ l) ++ lo (ix2 ⟨2 * r.val, by omega⟩ l) := by
  apply BitVec.eq_of_getLsbD_eq
  intro i hi'
  rw [bitcast_bit (evenWord lo hi) bitcasts_S8x128_w32_S16x128_w16 (by decide) r l i hi' ⟨r.val / 2, by omega⟩ (16 * (r.val % 2) + i)
    (by show r.val * 16 + i = r.val / 2 * 32 + _; omega) (by omega), BitVec.getLsbD_append]
  show (IntOp.ori (IntOp.andi _ _) (IntOp.shli .vector (IntOp.andi _ _) 8#32)).getLsbD _ = _
  unfold IntOp.ori
  rw [BitVec.getLsbD_or, shl8_bit _ _ (by omega)]
  unfold IntOp.andi
  simp only [BitVec.getLsbD_and]
  show ((_ && (16711935#32).getLsbD _) || (_ && (_ && (16711935#32).getLsbD _))) = _
  rw [mask00ff _ (by omega), mask00ff _ (by omega)]
  by_cases h8 : i < 8
  · rw [if_pos h8, bitcast_bit lo bitcasts_S32x128_w8_S8x128_w32 (by decide) ⟨r.val / 2, by omega⟩ l _ (by omega) ⟨2 * r.val, by omega⟩ i
      (by show r.val / 2 * 32 + _ = 2 * r.val * 8 + i; omega) h8]
    have h1 : (16 * (r.val % 2) + i) / 8 % 2 = 0 := by omega
    have h2 : ¬ (8 ≤ 16 * (r.val % 2) + i ∧ (16 * (r.val % 2) + i - 8) / 8 % 2 = 0) := by omega
    simp only [h1, decide_true, Bool.and_true]
    by_cases h3 : 8 ≤ 16 * (r.val % 2) + i
    · have h4 : ¬ (16 * (r.val % 2) + i - 8) / 8 % 2 = 0 := fun h => h2 ⟨h3, h⟩
      simp [h4]
    · simp [h3]
  · rw [if_neg h8, bitcast_bit hi bitcasts_S32x128_w8_S8x128_w32 (by decide) ⟨r.val / 2, by omega⟩ l (16 * (r.val % 2) + i - 8) (by omega)
      ⟨2 * r.val, by omega⟩ (i - 8) (by show r.val / 2 * 32 + _ = 2 * r.val * 8 + (i - 8); omega) (by omega)]
    have h1 : ¬ (16 * (r.val % 2) + i) / 8 % 2 = 0 := by omega
    have h3 : 8 ≤ 16 * (r.val % 2) + i := by omega
    have h4 : (16 * (r.val % 2) + i - 8) / 8 % 2 = 0 := by omega
    simp [h1, h3, h4]

/-- The selector of odd rows. -/
theorem oddSel_row (j : Fin 32) (l : Fin 128) : oddSel (ix2 j l) = BitVec.ofNat 1 (j.val % 2) := by
  have e : oddSel (ix2 j l) = oddSel (ix2 j 0) := rfl
  rw [e]; clear e; revert j; decide +kernel

/-- Row `r` of the sixteen-bit elements of an odd word: the bytes of row `2 r + 1`. -/
theorem oddWord_row (lo hi : IVec S32x128 8) (r : Fin 16) (l : Fin 128) :
    bitcast S16x128 16 (oddWord oddSel lo hi) bitcasts_S8x128_w32_S16x128_w16 (ix2 r l)
      = hi (ix2 ⟨2 * r.val + 1, by omega⟩ l) ++ lo (ix2 ⟨2 * r.val + 1, by omega⟩ l) := by
  apply BitVec.eq_of_getLsbD_eq
  intro i hi'
  rw [bitcast_bit (oddWord oddSel lo hi) bitcasts_S8x128_w32_S16x128_w16 (by decide) r l i hi' ⟨r.val / 2, by omega⟩ (16 * (r.val % 2) + i)
    (by show r.val * 16 + i = r.val / 2 * 32 + _; omega) (by omega), BitVec.getLsbD_append]
  unfold oddWord
  by_cases h8 : i < 8
  · rw [if_pos h8, bitcast_bit _ bitcasts_S32x128_w8_S8x128_w32 (by decide) ⟨r.val / 2, by omega⟩ l _ (by omega) ⟨2 * r.val, by omega⟩ i
      (by show r.val / 2 * 32 + _ = 2 * r.val * 8 + i; omega) h8]
    have e : oddSel (ix2 ⟨2 * r.val, by omega⟩ l) = 0#1 := by
      rw [oddSel_row]; show BitVec.ofNat 1 (2 * r.val % 2) = _; rw [Nat.mul_mod_right]
    rw [select_apply, e, select_zero, bitcast_bit _ bitcasts_S8x128_w32_S32x128_w8 (by decide) ⟨2 * r.val, by omega⟩ l i h8 ⟨r.val / 2, by omega⟩
      (16 * (r.val % 2) + i) (by show 2 * r.val * 8 + i = r.val / 2 * 32 + _; omega) (by omega)]
    refine (shr8_bit _ _).trans ?_
    exact bitcast_bit lo bitcasts_S32x128_w8_S8x128_w32 (by decide) ⟨r.val / 2, by omega⟩ l _ (by omega) ⟨2 * r.val + 1, by omega⟩ i
      (by show r.val / 2 * 32 + _ = (2 * r.val + 1) * 8 + i; omega) h8
  · rw [if_neg h8, bitcast_bit _ bitcasts_S32x128_w8_S8x128_w32 (by decide) ⟨r.val / 2, by omega⟩ l _ (by omega) ⟨2 * r.val + 1, by omega⟩ (i - 8)
      (by show r.val / 2 * 32 + _ = (2 * r.val + 1) * 8 + (i - 8); omega) (by omega)]
    have e : oddSel (ix2 ⟨2 * r.val + 1, by omega⟩ l) = 1#1 := by
      rw [oddSel_row]; show BitVec.ofNat 1 ((2 * r.val + 1) % 2) = _; rw [Nat.mul_add_mod]
    rw [select_apply, e, select_one]

/-- The code of a byte of the words, as a number. -/
theorem codeOf_toNat (w : Vec F S128x128 .i8) (q : Fin 4) (h : Fin 2) (j : Fin 32) (l : Fin 128) :
    codeOf (shiftH (wordOf (F := F) w q) h) (ix2 j l) = BitVec.ofNat 8 (nib h (w (ix2 l ⟨32 * q.val + j.val, by omega⟩))).val := by
  have hw : ∀ i, i < 32 → (wordOf (F := F) w q (ix2 ⟨j.val / 4, by omega⟩ l)).getLsbD (8 * (j.val % 4) + i % 8)
      = (w (ix2 l ⟨32 * q.val + j.val, by omega⟩)).getLsbD (i % 8) := by
    intro i hi
    unfold wordOf
    rw [bitcast_bit _ bitcasts_S32x128_w8_S8x128_w32 (by decide) ⟨j.val / 4, by omega⟩ l _ (by omega) j (i % 8)
      (by show j.val / 4 * 32 + _ = _; omega) (by omega)]
    rw [extractStridedSlice_apply _ _ (slicesQ q) (ix2 j l) (ix2 ⟨32 * q.val + j.val, by omega⟩ l) (by
      intro a; match a with | ⟨0, _⟩ => rfl | ⟨1, _⟩ => exact (Nat.zero_add _).symm)]
    rw [transpose_ix2_apply]
  generalize hb : (w (ix2 l ⟨32 * q.val + j.val, by omega⟩) : BitVec 8) = b at hw
  apply BitVec.eq_of_getLsbD_eq
  intro i hi
  unfold codeOf
  rw [bitcast_bit _ bitcasts_S8x128_w32_S32x128_w8 (by decide) j l i hi ⟨j.val / 4, by omega⟩ (8 * (j.val % 4) + i)
    (by show j.val * 8 + i = j.val / 4 * 32 + _; omega) (by omega)]
  show (IntOp.andi _ _).getLsbD _ = _
  unfold IntOp.andi
  rw [BitVec.getLsbD_and]
  show (_ && (252645135#32).getLsbD _) = _
  rw [mask0f _ (by omega), BitVec.getLsbD_ofNat]
  by_cases h4 : i < 4
  · have h5 : (8 * (j.val % 4) + i) % 8 < 4 := by omega
    simp only [h5, decide_true, Bool.and_true, hi, Bool.true_and]
    match h with
    | ⟨0, _⟩ =>
      show (wordOf (F := F) w q _).getLsbD _ = Nat.testBit (b.toNat % 16) i
      have := hw i (by omega)
      rw [show i % 8 = i by omega] at this
      rw [this, show (16 : ℕ) = 2 ^ 4 from rfl, Nat.testBit_mod_two_pow]
      simp [h4, BitVec.testBit_toNat]
    | ⟨1, _⟩ =>
      show (IntOp.shrui .vector (wordOf (F := F) w q _) 4#32).getLsbD _ = Nat.testBit (b.toNat / 16) i
      rw [shr4_bit]
      have := hw (4 + i) (by omega)
      rw [show (4 + i) % 8 = 4 + i by omega, show 8 * (j.val % 4) + (4 + i) = 4 + (8 * (j.val % 4) + i) by omega] at this
      rw [this, show (16 : ℕ) = 2 ^ 4 from rfl, Nat.testBit_div_two_pow, BitVec.testBit_toNat, Nat.add_comm]
  · have h5 : ¬ (8 * (j.val % 4) + i) % 8 < 4 := by omega
    simp only [h5, decide_false, Bool.and_false]
    have h6 : (nib h b).val < 2 ^ i := lt_of_lt_of_le (nib h b).isLt (Nat.pow_le_pow_right (by decide : 2 > 0) (by omega : 4 ≤ i))
    rw [Nat.testBit_lt_two_pow h6, Bool.and_false]

/-- A nibble stays itself when widened. -/
theorem sext_nib : ∀ k : Fin 16, ((BitVec.ofNat 8 k.val).signExtend 32).toNat % 32 = k.val := by decide

/-- The table of low bytes. -/
theorem tabLo_row (l : Fin 128) (k : Fin 16) : tabLo (ix2 ⟨k.val, by omega⟩ l) = (nf4bits k).setWidth 8 := by
  have e : tabLo (ix2 ⟨k.val, by omega⟩ l) = tabLo (ix2 ⟨k.val, by omega⟩ 0) := rfl
  rw [e]; clear e; revert k; decide +kernel
/-- The table of high bytes. -/
theorem tabHi_row (l : Fin 128) (k : Fin 16) : tabHi (ix2 ⟨k.val, by omega⟩ l) = (nf4bits k).extractLsb' 8 8 := by
  have e : tabHi (ix2 ⟨k.val, by omega⟩ l) = tabHi (ix2 ⟨k.val, by omega⟩ 0) := rfl
  rw [e]; clear e; revert k; decide +kernel
/-- A word of the table is its two bytes. -/
theorem nf4_bytes : ∀ k : Fin 16, (nf4bits k).extractLsb' 8 8 ++ (nf4bits k).setWidth 8 = nf4bits k := by decide

/-- A lookup in a byte table at a byte's code. -/
theorem byteOf_row (tab : IVec S32x128 8) (w : Vec F S128x128 .i8) (q : Fin 4) (h : Fin 2) (j : Fin 32) (l : Fin 128) :
    byteOf tab (shiftH (wordOf (F := F) w q) h) (ix2 j l)
      = tab (ix2 ⟨(nib h (w (ix2 l ⟨32 * q.val + j.val, by omega⟩))).val, by omega⟩ l) := by
  unfold byteOf
  show tab _ = tab _
  congr 1
  funext b
  have e : idxOf (shiftH (wordOf (F := F) w q) h) (ix2 j l)
      = (codeOf (shiftH (wordOf (F := F) w q) h) (ix2 j l)).signExtend 32 := by
    unfold idxOf
    rw [shapeCast_apply _ shapeCasts_S32x128x1_S32x128 (ix2 j l) (ix3 j l 0) (by rfl),
      shapeCast_apply _ shapeCasts_S32x128_S32x128x1 (ix3 j l 0) (ix2 j l) (by rfl)]
    rfl
  match b with
  | ⟨0, _⟩ =>
    rw [if_pos (show (⟨0, _⟩ : Fin 2) = 0 from rfl)]
    apply Fin.ext
    show (idxOf (shiftH (wordOf (F := F) w q) h) (ix2 j l)).toNat % 32 = _
    rw [e, codeOf_toNat, sext_nib]
  | ⟨1, _⟩ => rfl

end Cert.KernelIdeal.Hand
-- ==== Proof.KernelIdeal.Weights.lean ====
/-
The value of one tile, as the plain sum.

At the reals every rounding is the identity. The dequantised weight at row `D` of a chunk is the table entry
of one packed byte's nibble by its block scale; the accumulator is the sum of the chunks' products; and the
chunks' rows, taken together, are all packed columns of both nibbles, each once.
-/
module

public import proofs.«01_k».proof.Proof.KernelIdeal.Nibbles
public import Idealize.ShloMosaic.Lib.MatmulPlain
public import Idealize.ShloMosaic.Lib.ValueIdx

@[expose] public section
noncomputable section

namespace Cert.KernelIdeal.Hand

open Idealize.ShloMosaic Idealize.ShloMosaic.ValueIdx
open Cert.KernelIdeal.Gen

/-- The real that the table holds for nibble `h` of a packed byte. -/
def entry (h : Fin 2) (b : BitVec 8) : EReal := Ideal.ofBits .bf16 (nf4bits (nib h b))

/-- The packed column, within its chunk, whose weight stands in row `d` of a chunk's 128. -/
def src (d : ℕ) : ℕ := 32 * (d / 32) + 2 * (d % 16) + d % 32 / 16

/-- It is a column of the chunk. -/
theorem src_lt (d : ℕ) (hd : d < 128) : src d < 128 := by unfold src; omega

/-- The block scales as the product takes them: row `r` of sixteen is row `r % 2` of the pair. -/
theorem amRows_row (raw : Vec Ideal S1x2x128 .bf16) (r : Fin 16) (l : Fin 128) :
    amRows raw (ix2 r l) = raw (ix3 0 ⟨r.val % 2, by omega⟩ l) := by
  have hc : ∀ (p : Fin 2) (j : Fin 8), concatenate S8x128 0 (List.replicate 8 (⟨S1x128, shapeCast S1x128 (rowsOfParity p S1x1x128 raw bitcasts_S1x2x128_w16_S1x1x128_w32) shapeCasts_S1x1x128_S1x128⟩ : (s : Shape) × (s.Idx → EReal)))
      concatenates_S1x128_S1x128_S1x128_S1x128_S1x128_S1x128_S1x128_S1x128_S8x128_d0 (ix2 j l) = raw (ix3 0 p l) := by
    intro p j
    rw [concatenate_replicate_apply (t := S8x128) (s₁ := S1x128) 0 8 _ _ rfl (ix2 j l) (ix2 0 l) (by show 0 = j.val % 1; omega)
      (by intro b hb; match b with | ⟨0, _⟩ => exact absurd rfl hb | ⟨1, _⟩ => rfl)]
    rw [shapeCast_1ab_ab_apply]
    show raw _ = raw _
    congr 1
    funext a
    match a with
    | ⟨0, _⟩ => rfl
    | ⟨1, _⟩ => exact Fin.ext (by show 2 * 0 + p.val = p.val; omega)
    | ⟨2, _⟩ => rfl
  unfold amRows interleaveRows
  have hrow : S16x128.row (ix2 r l) = r.val := rfl
  dsimp only
  rw [hrow]
  split
  · rename_i h0
    refine (congrArg (concatenate S8x128 0 _ _) (?_ : _ = (ix2 ⟨r.val / 2, by omega⟩ l : S8x128.Idx))).trans ((hc 0 _).trans ?_)
    · funext b
      match b with
      | ⟨0, _⟩ => rfl
      | ⟨1, _⟩ => rfl
    · congr 2
      exact Fin.ext h0.symm
  · rename_i h0
    refine (congrArg (concatenate S8x128 0 _ _) (?_ : _ = (ix2 ⟨r.val / 2, by omega⟩ l : S8x128.Idx))).trans ((hc 1 _).trans ?_)
    · funext b
      match b with
      | ⟨0, _⟩ => rfl
      | ⟨1, _⟩ => rfl
    · congr 2
      exact Fin.ext (by show 1 = r.val % 2; omega)

/-- Sixteen dequantised rows, element by element. -/
theorem part_row (w : Vec Ideal S128x128 .i8) (A : Fin 2 → Fin 2 → Vec Ideal S1x2x128 .bf16) (h : Fin 2) (q : Fin 4) (e : Fin 2)
    (r : Fin 16) (l : Fin 128) :
    part tabLo tabHi oddSel w A h q e (ix2 r l)
      = entry h (w (ix2 l ⟨32 * q.val + 2 * r.val + e.val, by omega⟩)) * A h ⟨q.val / 2, by omega⟩ (ix3 0 ⟨r.val % 2, by omega⟩ l) := by
  have key : ∀ j : Fin 32, tabHi (ix2 ⟨(nib h (w (ix2 l ⟨32 * q.val + j.val, by omega⟩))).val, by omega⟩ l)
      ++ tabLo (ix2 ⟨(nib h (w (ix2 l ⟨32 * q.val + j.val, by omega⟩))).val, by omega⟩ l)
      = nf4bits (nib h (w (ix2 l ⟨32 * q.val + j.val, by omega⟩))) := by
    intro j
    rw [tabHi_row, tabLo_row]
    exact nf4_bytes _
  unfold part partOf
  match e with
  | ⟨0, _⟩ =>
    rw [if_pos rfl, mulf_apply, amRows_row]
    congr 1
    show Ideal.ofBits .bf16 (bitcast S16x128 16 _ _ (ix2 r l)) = _
    rw [evenWord_row, byteOf_row, byteOf_row, key ⟨2 * r.val, by omega⟩]
    rfl
  | ⟨1, _⟩ =>
    rw [if_neg (show ¬ (1 : ℕ) = 0 by decide), mulf_apply, amRows_row]
    congr 1
    show Ideal.ofBits .bf16 (bitcast S16x128 16 _ _ (ix2 r l)) = _
    rw [oddWord_row, byteOf_row, byteOf_row, key ⟨2 * r.val + 1, by omega⟩]
    rfl

/-- A chunk's 256 dequantised rows, element by element. -/
theorem column_row (w : Vec Ideal S128x128 .i8) (A : Fin 2 → Fin 2 → Vec Ideal S1x2x128 .bf16) (D : Fin 256) (l : Fin 128) :
    column tabLo tabHi oddSel w A (ix2 D l)
      = entry ⟨D.val / 128, by omega⟩ (w (ix2 l ⟨src (D.val % 128), src_lt _ (by omega)⟩))
        * A ⟨D.val / 128, by omega⟩ ⟨D.val % 128 / 64, by omega⟩ (ix3 0 ⟨D.val % 2, by omega⟩ l) := by
  unfold column
  rw [concatenate_ofFn_apply (t := S256x128) (s₁ := S16x128) 0 (N := 16)
    (fun p : Fin 16 => part tabLo tabHi oddSel w A ⟨p.val / 8, by omega⟩ ⟨p.val % 8 / 2, by omega⟩ ⟨p.val % 2, by omega⟩)
    concatenates_S16x128_S16x128_S16x128_S16x128_S16x128_S16x128_S16x128_S16x128_S16x128_S16x128_S16x128_S16x128_S16x128_S16x128_S16x128_S16x128_S256x128_d0
    rfl 16 rfl (ix2 D l) ⟨D.val / 16, by omega⟩ rfl (ix2 ⟨D.val % 16, by omega⟩ l) rfl
    (by intro b hb; match b with | ⟨0, _⟩ => exact absurd rfl hb | ⟨1, _⟩ => rfl)]
  rw [part_row]
  have e1 : (⟨D.val / 16 / 8, by omega⟩ : Fin 2) = ⟨D.val / 128, by omega⟩ := Fin.ext (by show D.val / 16 / 8 = D.val / 128; omega)
  have e2 : (⟨D.val / 16 % 8 / 2 / 2, by omega⟩ : Fin 2) = ⟨D.val % 128 / 64, by omega⟩ := Fin.ext (by show D.val / 16 % 8 / 2 / 2 = D.val % 128 / 64; omega)
  have e3 : (⟨D.val % 16 % 2, by omega⟩ : Fin 2) = ⟨D.val % 2, by omega⟩ := Fin.ext (by show D.val % 16 % 2 = D.val % 2; omega)
  have e4 : (⟨32 * (D.val / 16 % 8 / 2) + 2 * (D.val % 16) + D.val / 16 % 2, by omega⟩ : Fin 128) = ⟨src (D.val % 128), src_lt _ (by omega)⟩ :=
    Fin.ext (by show 32 * (D.val / 16 % 8 / 2) + 2 * (D.val % 16) + D.val / 16 % 2 = src (D.val % 128); unfold src; omega)
  show entry ⟨D.val / 16 / 8, _⟩ (w (ix2 l ⟨32 * (D.val / 16 % 8 / 2) + 2 * (D.val % 16) + D.val / 16 % 2, _⟩))
    * A ⟨D.val / 16 / 8, _⟩ ⟨D.val / 16 % 8 / 2 / 2, _⟩ (ix3 0 ⟨D.val % 16 % 2, _⟩ l) = _
  rw [e1, e2, e3, e4]

/-- The dequantised weights of a chunk, element by element. -/
theorem wkOf_row (W : Fin 2 → Vec Ideal S128x128 .i8) (A : Fin 2 → Fin 2 → Fin 2 → Vec Ideal S1x2x128 .bf16) (D n : Fin 256) :
    wkOf tabLo tabHi oddSel W A (ix2 D n)
      = entry ⟨D.val / 128, by omega⟩ (W ⟨n.val / 128, by omega⟩ (ix2 ⟨n.val % 128, by omega⟩ ⟨src (D.val % 128), src_lt _ (by omega)⟩))
        * A ⟨n.val / 128, by omega⟩ ⟨D.val / 128, by omega⟩ ⟨D.val % 128 / 64, by omega⟩ (ix3 0 ⟨D.val % 2, by omega⟩ ⟨n.val % 128, by omega⟩) := by
  have hl : wkOf tabLo tabHi oddSel W A = concatenate S256x256 1 (List.ofFn fun p : Fin 2 => (⟨S256x128, column tabLo tabHi oddSel (W p) (A p)⟩ : (s : Shape) × (s.Idx → EReal)))
      concatenates_S256x128_S256x128_S256x256_d1 := rfl
  rw [hl, concatenate_ofFn_apply (t := S256x256) (s₁ := S256x128) 1 (N := 2) (fun p : Fin 2 => column tabLo tabHi oddSel (W p) (A p))
    concatenates_S256x128_S256x128_S256x256_d1 rfl 128 rfl (ix2 D n) ⟨n.val / 128, by omega⟩ rfl (ix2 D ⟨n.val % 128, by omega⟩) rfl
    (by intro b hb; match b with | ⟨0, _⟩ => rfl | ⟨1, _⟩ => exact absurd rfl hb)]
  exact column_row _ _ _ _

/-- The accumulator after `n` chunks. -/
theorem accOf_row (X : Fin 19 → Vec Ideal S1x48x256 .bf16) (W : Fin 19 → Fin 2 → Vec Ideal S128x128 .i8)
    (A : Fin 19 → Fin 2 → Fin 2 → Fin 2 → Vec Ideal S1x2x128 .bf16) (m : Fin 48) (j : Fin 256) :
    ∀ (n : ℕ) (hn : n ≤ 19), accOf tabLo tabHi oddSel X W A n hn (ix2 m j)
      = ∑ c : Fin n, ∑ D : Fin 256, X ⟨c.val, by omega⟩ (ix3 0 m D) * wkOf tabLo tabHi oddSel (W ⟨c.val, by omega⟩) (A ⟨c.val, by omega⟩) (ix2 D j)
  | 0, _ => by
    show Ideal.ofBits .f32 0x00000000#32 = _
    rw [Ideal.ofBits_zero_f32, Finset.univ_eq_empty, Finset.sum_empty]
  | n + 1, hn => by
    rw [Fin.sum_univ_castSucc]
    show accOf tabLo tabHi oddSel X W A n _ (ix2 m j) + FloatOps.matmul (DotDims.plain 48 256 256) none _ _ _ (ix2 m j) = _
    rw [accOf_row X W A m j n (by omega), Ideal.matmul_plain_apply]
    congr 1
    show Ideal.ofBits .f32 0x00000000#32 + _ = _
    rw [Ideal.ofBits_zero_f32, zero_add]
    refine Finset.sum_congr rfl fun D _ => ?_
    rw [shapeCast_1ab_ab_apply]
    rfl

/-- The row of a chunk's 128 in which packed column `k` of the chunk stands. -/
def dst (k : ℕ) : ℕ := 32 * (k / 32) + 16 * (k % 2) + k % 32 / 2

/-- It is a column of the chunk. -/
theorem dst_lt (k : ℕ) (hk : k < 128) : dst k < 128 := by unfold dst; omega
/-- The order and its inverse cancel. -/
theorem src_dst : ∀ k : Fin 128, src (dst k.val) = k.val := by decide
/-- So they do the other way round. -/
theorem dst_src : ∀ d : Fin 128, dst (src d.val) = d.val := by decide
/-- The order keeps every column within its block of 64. -/
theorem src_block : ∀ d : Fin 128, src d.val / 64 = d.val / 64 := by decide

/-- All rows of all chunks are all packed columns of both nibbles. -/
def rowEquiv : Fin 19 × Fin 256 ≃ Fin 2 × Fin 2432 where
  toFun p := (⟨p.2.val / 128, by omega⟩, ⟨128 * p.1.val + src (p.2.val % 128), by have := src_lt (p.2.val % 128) (by omega); omega⟩)
  invFun p := (⟨p.2.val / 128, by omega⟩, ⟨128 * p.1.val + dst (p.2.val % 128), by have := dst_lt (p.2.val % 128) (by omega); omega⟩)
  left_inv p := by
    obtain ⟨⟨c, hc⟩, ⟨D, hD⟩⟩ := p
    have h1 := src_lt (D % 128) (by omega)
    have h2 := dst_src ⟨D % 128, by omega⟩
    dsimp only at h2
    refine Prod.ext (Fin.ext ?_) (Fin.ext ?_)
    · show (128 * c + src (D % 128)) / 128 = c
      omega
    · show 128 * (D / 128) + dst ((128 * c + src (D % 128)) % 128) = D
      rw [show (128 * c + src (D % 128)) % 128 = src (D % 128) by omega, h2]; omega
  right_inv p := by
    obtain ⟨⟨h, hh⟩, ⟨k, hk⟩⟩ := p
    have h1 := dst_lt (k % 128) (by omega)
    have h2 := src_dst ⟨k % 128, by omega⟩
    dsimp only at h2
    refine Prod.ext (Fin.ext ?_) (Fin.ext ?_)
    · show (128 * h + dst (k % 128)) / 128 = h
      omega
    · show 128 * (k / 128) + src ((128 * h + dst (k % 128)) % 128) = k
      rw [show (128 * h + dst (k % 128)) % 128 = dst (k % 128) by omega, h2]; omega

/-- The output at row `m`, from the activations, one feature's packed bytes and its block scales. -/
def dot (x : Fin 4864 → EReal) (w : Fin 2432 → BitVec 8) (am : Fin 76 → EReal) : EReal :=
  ∑ h : Fin 2, ∑ k : Fin 2432, x ⟨2432 * h.val + k.val, by omega⟩ * (entry h (w k) * am ⟨38 * h.val + k.val / 64, by omega⟩)

/-- What the loop stores of a tile, when its loads are the permuted activations, the packed weights and the block scales. -/
theorem acc_dot (X : Fin 19 → Vec Ideal S1x48x256 .bf16) (W : Fin 19 → Fin 2 → Vec Ideal S128x128 .i8)
    (A : Fin 19 → Fin 2 → Fin 2 → Fin 2 → Vec Ideal S1x2x128 .bf16) (m : Fin 48) (j : Fin 256)
    (x : Fin 4864 → EReal) (w : Fin 2432 → BitVec 8) (am : Fin 76 → EReal)
    (hX : ∀ (c : Fin 19) (D : Fin 256), X c (ix3 0 m D) = x ⟨2432 * (D.val / 128) + (128 * c.val + src (D.val % 128)), by have := src_lt (D.val % 128) (by omega); omega⟩)
    (hW : ∀ (c : Fin 19) (k : Fin 128), W c ⟨j.val / 128, by omega⟩ (ix2 ⟨j.val % 128, by omega⟩ k) = w ⟨128 * c.val + k.val, by omega⟩)
    (hA : ∀ (c : Fin 19) (h e s : Fin 2), A c ⟨j.val / 128, by omega⟩ h e (ix3 0 s ⟨j.val % 128, by omega⟩) = am ⟨38 * h.val + 2 * c.val + e.val, by omega⟩) :
    accOf tabLo tabHi oddSel X W A 19 (Nat.le_refl 19) (ix2 m j) = dot x w am := by
  rw [accOf_row, dot, ← Fintype.sum_prod_type', ← Fintype.sum_prod_type']
  refine Fintype.sum_equiv rowEquiv _ _ fun p => ?_
  obtain ⟨c, D⟩ := p
  have hs := src_lt (D.val % 128) (by omega)
  have hb : (⟨38 * (D.val / 128) + 2 * c.val + D.val % 128 / 64, by omega⟩ : Fin 76)
      = ⟨38 * (D.val / 128) + (128 * c.val + src (D.val % 128)) / 64, by omega⟩ := Fin.ext (by
    show 38 * (D.val / 128) + 2 * c.val + D.val % 128 / 64 = 38 * (D.val / 128) + (128 * c.val + src (D.val % 128)) / 64
    have := src_block ⟨D.val % 128, by omega⟩
    dsimp only at this
    omega)
  show X c (ix3 0 m D) * wkOf tabLo tabHi oddSel (W c) (A c) (ix2 D j) = _
  rw [wkOf_row, hX, hW, hA]
  show _ * (_ * am ⟨38 * (D.val / 128) + 2 * c.val + D.val % 128 / 64, _⟩) = _
  rw [hb]
  rfl

end Cert.KernelIdeal.Hand
-- ==== Proof.KernelIdeal.Acts.lean ====
/-
The activations that the first grid point stores, read back, and the copied scale table.

The permutation matrix has one `1` in each column; a product with it picks one activation, whatever the
others are. Place `D` of chunk `c` holds the activation of half `D / 128` at packed column
`128 c + src (D % 128)`.
-/
module

public import proofs.«01_k».proof.Proof.KernelIdeal.Weights
public import Idealize.ShloMosaic.Lib.WholeRead
public import Idealize.ShloMosaic.Lib.Writes

@[expose] public section
noncomputable section

namespace Cert.KernelIdeal.Hand

open Idealize.ShloMosaic Idealize.ShloMosaic.ValueIdx
open Cert.KernelIdeal.Gen

/-- The source column that each column of the permutation takes. -/
def wantV : IVec S128x128 32 :=
  let dst : IVec S128x128 32 := iota .tc S128x128 32 [1] iota_S128x128_d1_w32
  addi (addi (muli (floorDivV S128x128 dst 32#32) (broadcast S128x128 32#32))
      (muli (modV S128x128 broadcasts_S128x128_S128x128 dst 16#32) (broadcast S128x128 2#32)))
    (floorDivV S128x128 (modV S128x128 broadcasts_S128x128_S128x128 dst 32#32) 16#32)

/-- The source column that a destination column wants. -/
theorem wantV_row (s d : Fin 128) : wantV (ix2 s d) = BitVec.ofNat 32 (src d.val) := by
  have e : wantV (ix2 s d) = wantV (ix2 0 d) := rfl
  rw [e]; clear e s; revert d; decide +kernel

/-- The row number of an entry. -/
theorem rowV_row (s d : Fin 128) : iota .tc S128x128 32 [0] iota_S128x128_d0_w32 (ix2 s d) = BitVec.ofNat 32 s.val := by
  have e : iota .tc S128x128 32 [0] iota_S128x128_d0_w32 (ix2 s d) = iota .tc S128x128 32 [0] iota_S128x128_d0_w32 (ix2 s 0) := rfl
  rw [e]; clear e d; revert s; decide +kernel

/-- The permutation matrix. -/
theorem permM_row (s d : Fin 128) : permM (F := Ideal) (ix2 s d) = if s.val = src d.val then 1 else 0 := by
  have e : permM (F := Ideal) (ix2 s d)
      = (((((IntOp.cmpi .eq (iota .tc S128x128 32 [0] iota_S128x128_d0_w32 (ix2 s d)) (wantV (ix2 s d))).setWidth 32 : BitVec 32).toInt : ℝ)) : EReal) := rfl
  have hs := src_lt d.val d.isLt
  rw [e, rowV_row, wantV_row]
  by_cases h : s.val = src d.val
  · rw [if_pos h, h]
    have : IntOp.cmpi .eq (BitVec.ofNat 32 (src d.val)) (BitVec.ofNat 32 (src d.val)) = 1#1 := by unfold IntOp.cmpi; simp
    rw [this]
    norm_num
  · rw [if_neg h]
    have hne : ¬ BitVec.ofNat 32 s.val = BitVec.ofNat 32 (src d.val) := fun he => h (by
      have := congrArg BitVec.toNat he
      rw [BitVec.toNat_ofNat, BitVec.toNat_ofNat, Nat.mod_eq_of_lt (by omega), Nat.mod_eq_of_lt (by omega)] at this
      exact this)
    have : IntOp.cmpi .eq (BitVec.ofNat 32 s.val) (BitVec.ofNat 32 (src d.val)) = 0#1 := by
      show BitVec.ofBool (BitVec.ofNat 32 s.val == BitVec.ofNat 32 (src d.val)) = 0#1
      rw [beq_eq_false_iff_ne.2 hne]
      rfl
    rw [this]
    norm_num

/-- A product with the permutation picks a column. -/
theorem perm_apply (x : FVec Ideal S48x128 .bf16) (m : Fin 48) (d : Fin 128) :
    (matmul dot_S48x128_S128x128_S48x128_1_0_0_1_n_n none x permM (constant S48x128 .f32 0x00000000#32) : FVec Ideal S48x128 .f32) (ix2 m d)
      = x (ix2 m ⟨src d.val, src_lt _ d.isLt⟩) := by
  show FloatOps.matmul (DotDims.plain 48 128 128) none _ _ _ (ix2 m d) = _
  rw [Ideal.matmul_plain_apply]
  show Ideal.ofBits .f32 0x00000000#32 + _ = _
  rw [Ideal.ofBits_zero_f32, zero_add, Finset.sum_eq_single (⟨src d.val, src_lt _ d.isLt⟩ : Fin 128)]
  · rw [permM_row, if_pos rfl, mul_one]
  · intro s _ hs
    rw [permM_row, if_neg (fun h => hs (Fin.ext h)), mul_zero]
  · intro h
    exact absurd (Finset.mem_univ _) h

section Loads
variable (arg1 : Memref sig .tc .vmem S48x4864 .bf16) (X1 : BufTy.Contents (Elt Ideal) arg1.view.ty)
  (x : Fin 48 → Fin 4864 → EReal) (h1 : ∀ m k, arg1.view.read (Elt Ideal) X1 (ix2 m k) = x m k)

/-- The activation in place `D` of chunk `c`. -/
def actAt (c : Fin 19) (m : Fin 48) (D : Fin 256) : EReal :=
  x m ⟨2432 * (D.val / 128) + (128 * c.val + src (D.val % 128)), by have := src_lt (D.val % 128) (by omega); omega⟩

include h1 in
/-- A written piece of the activation scratch holds the columns in their new order. -/
theorem xpPiece_eq (c : Fin 19) (h : Fin 2) : ∀ y, (xpPiece arg1 X1 c h).2 y
    = (fun z : S19x48x256.Idx => actAt x (z 0) (z 1) (z 2)) ((xpPiece arg1 X1 c h).1.emb y) := by
  intro y
  obtain ⟨u, m, d, rfl⟩ : ∃ (u : Fin 1) (m : Fin 48) (d : Fin 128), y = ix3 u m d := ⟨y 0, y 1, y 2, eq_ix3 y⟩
  refine Eq.trans (b := (matmul dot_S48x128_S128x128_S48x128_1_0_0_1_n_n none
      (shapeCast S48x128 (View.readAt (Elt Ideal) arg1.view (Rect.unit (s := S48x4864) ![0, 2432 * h.val + 128 * c.val] S48x128.size (inbXin c h)).toLoadRect X1) shapeCasts_S48x128_S48x128 : FVec Ideal S48x128 .bf16)
      permM (constant S48x128 .f32 0x00000000#32) : FVec Ideal S48x128 .f32) (ix2 m d)) ?_ ?_
  · exact shapeCast_ab_1ab_apply (α := EReal) (matmul dot_S48x128_S128x128_S48x128_1_0_0_1_n_n none
      (shapeCast S48x128 (View.readAt (Elt Ideal) arg1.view (Rect.unit (s := S48x4864) ![0, 2432 * h.val + 128 * c.val] S48x128.size (inbXin c h)).toLoadRect X1) shapeCasts_S48x128_S48x128 : FVec Ideal S48x128 .bf16)
      permM (constant S48x128 .f32 0x00000000#32) : FVec Ideal S48x128 .f32) shapeCasts_S48x128_S1x48x128 u m d
  refine (perm_apply _ m d).trans ?_
  rw [shapeCast_apply _ shapeCasts_S48x128_S48x128 (ix2 m ⟨src d.val, src_lt _ d.isLt⟩) (ix2 m ⟨src d.val, src_lt _ d.isLt⟩) rfl, View.readAt_apply]
  have hs := src_lt d.val d.isLt
  have hu : u.val = 0 := by omega
  refine Eq.trans (congrArg _ ?_) ((h1 m ⟨2432 * h.val + (128 * c.val + src d.val), by omega⟩).trans ?_)
  · funext a
    match a with
    | ⟨0, _⟩ => apply Fin.ext; show 0 + 1 * m.val = m.val; omega
    | ⟨1, _⟩ => apply Fin.ext; show 2432 * h.val + 128 * c.val + 1 * src d.val = 2432 * h.val + (128 * c.val + src d.val); omega
  · refine congrArg₂ x (Fin.ext ?_) (Fin.ext ?_)
    · show m.val = 0 + 1 * m.val; omega
    · show 2432 * h.val + (128 * c.val + src d.val)
        = 2432 * ((128 * h.val + 1 * d.val) / 128) + (128 * (c.val + 1 * u.val) + src ((128 * h.val + 1 * d.val) % 128))
      rw [show (128 * h.val + 1 * d.val) % 128 = d.val by omega, show (128 * h.val + 1 * d.val) / 128 = h.val by omega, hu]
      omega

include h1 in
/-- The stored activations, whatever the buffer held before. -/
theorem xpPieces_read (arg7 : Memref sig .tc .vmem S19x48x256 .bf16) (f : BufTy.Contents (Elt Ideal) arg7.view.ty)
    (c : Fin 19) (m : Fin 48) (D : Fin 256) :
    arg7.view.read (Elt Ideal) (arg7.view.writes (Elt Ideal) f (xpPieces arg1 X1)) (ix3 c m D) = actAt x c m D := by
  refine View.read_writes_apply_of_pieces arg7.view f (fun z : S19x48x256.Idx => actAt x (z 0) (z 1) (z 2)) _ ?_ (ix3 c m D) ?_
  · intro p hp
    obtain ⟨k, rfl⟩ := (List.mem_ofFn' _ _).1 hp
    exact xpPiece_eq arg1 X1 x h1 _ _
  · have hk : 37 - (2 * c.val + D.val / 128) < 38 := by omega
    refine ⟨_, (List.mem_ofFn' _ _).2 ⟨⟨_, hk⟩, rfl⟩, ?_⟩
    have hm : ∀ (c' : Fin 19) (h' : Fin 2), c'.val = c.val → h'.val = D.val / 128 → (ix3 c m D : S19x48x256.Idx) ∈ (xpPiece arg1 X1 c' h').1.set := by
      intro c' h' hc hh
      unfold xpPiece
      rw [Rect.mem_set_unit]
      intro a
      match a with
      | ⟨0, _⟩ => show c'.val ≤ c.val ∧ c.val < c'.val + 1; omega
      | ⟨1, _⟩ => show 0 ≤ m.val ∧ m.val < 0 + 48; omega
      | ⟨2, _⟩ => show 128 * h'.val ≤ D.val ∧ D.val < 128 * h'.val + 128; omega
    refine hm _ _ ?_ ?_
    · show (37 - (37 - (2 * c.val + D.val / 128))) / 2 = c.val; omega
    · show (37 - (37 - (2 * c.val + D.val / 128))) % 2 = D.val / 128; omega

end Loads

/-- The copied scale table, whatever the buffer held before. -/
theorem scalePieces_read (arg4 : Memref sig .tc .vmem S75x128 .f32) (X4 : BufTy.Contents (Elt Ideal) arg4.view.ty)
    (arg9 : Memref sig .tc .vmem S75x128 .f32) (f : BufTy.Contents (Elt Ideal) arg9.view.ty) (r : Fin 75) (l : Fin 128) :
    arg9.view.read (Elt Ideal) (arg9.view.writes (Elt Ideal) f (scalePieces arg4 X4)) (ix2 r l) = arg4.view.read (Elt Ideal) X4 (ix2 r l) := by
  refine View.read_writes_apply_of_pieces arg9.view f (fun z : S75x128.Idx => arg4.view.read (Elt Ideal) X4 z) _ ?_ (ix2 r l) ?_
  · intro p hp
    obtain rfl := List.mem_singleton.1 hp
    intro z
    have e2 : ∀ v : Vec Ideal S75x128 .f32, shapeCast S75x128 (shapeCast S75x128 v shapeCasts_S75x128_S75x128 : FVec Ideal S75x128 .f32) shapeCasts_S75x128_S75x128 z = v z :=
      fun v => (shapeCast_apply _ shapeCasts_S75x128_S75x128 z z rfl).trans (shapeCast_apply v shapeCasts_S75x128_S75x128 z z rfl)
    exact e2 (View.readAt (Elt Ideal) arg4.view (Rect.unit (s := S75x128) ![0, 0] S75x128.size inb_S75x128_S75x128_0_0).toLoadRect X4)
  · refine ⟨_, List.mem_singleton.2 rfl, ?_⟩
    rw [Rect.mem_set_unit]
    intro a
    match a with
    | ⟨0, _⟩ => show 0 ≤ r.val ∧ r.val < 0 + 75; omega
    | ⟨1, _⟩ => show 0 ≤ l.val ∧ l.val < 0 + 128; omega

end Cert.KernelIdeal.Hand
-- ==== Proof.KernelIdeal.Block.lean ====
/-
The block of outputs that a grid point stores, as sums over the packed columns.
-/
module

public import proofs.«01_k».proof.Proof.KernelIdeal.Pieces
public import proofs.«01_k».proof.Proof.KernelIdeal.Scales
public import proofs.«01_k».proof.Proof.KernelIdeal.Acts

@[expose] public section
noncomputable section

namespace Cert.KernelIdeal.Hand

open Idealize.ShloMosaic Idealize.ShloMosaic.ValueIdx
open Cert.KernelIdeal.Gen

section Tiles
variable (arg2 : Memref sig .tc .vmem S768x2432 .i8) (arg7 : Memref sig .tc .vmem S19x48x256 .bf16)
  (arg8 : Memref sig .tc .vmem S76x2x768 .bf16)
  (X2 : BufTy.Contents (Elt Ideal) arg2.view.ty) (X7 : BufTy.Contents (Elt Ideal) arg7.view.ty) (X8 : BufTy.Contents (Elt Ideal) arg8.view.ty)
  (x : Fin 48 → Fin 4864 → EReal) (w : Fin 768 → Fin 2432 → BitVec 8) (am : Fin 76 → Fin 768 → EReal)
  (h2 : ∀ n k, arg2.view.read (Elt Ideal) X2 (ix2 n k) = w n k)
  (h7 : ∀ c m D, arg7.view.read (Elt Ideal) X7 (ix3 c m D) = actAt x c m D)
  (h8 : ∀ b e n, arg8.view.read (Elt Ideal) X8 (ix3 b e n) = am b n)

include h2 h7 h8 in
/-- What a tile computes, at an index: the sum over the packed columns. -/
theorem tileVal_row (k : Fin 3) (m : Fin 48) (j : Fin 256) :
    tileVal arg2 arg7 arg8 X2 X7 X8 tabLo tabHi oddSel k (ix2 m j)
      = dot (x m) (w ⟨256 * k.val + j.val, by omega⟩) (fun b => am b ⟨256 * k.val + j.val, by omega⟩) := by
  refine acc_dot (loadX arg7 X7) (loadW arg2 X2 k) (loadA arg8 X8 k) m j _ _ _ ?_ ?_ ?_
  · intro c D
    unfold loadX
    rw [View.readAt_apply]
    refine Eq.trans (congrArg _ ?_) (h7 c m D)
    funext a
    match a with
    | ⟨0, _⟩ => apply Fin.ext; show c.val + 1 * 0 = c.val; omega
    | ⟨1, _⟩ => apply Fin.ext; show 0 + 1 * m.val = m.val; omega
    | ⟨2, _⟩ => apply Fin.ext; show 0 + 1 * D.val = D.val; omega
  · intro c q
    unfold loadW
    rw [View.readAt_apply]
    refine Eq.trans (congrArg _ ?_) (h2 ⟨256 * k.val + j.val, by omega⟩ ⟨128 * c.val + q.val, by omega⟩)
    funext a
    match a with
    | ⟨0, _⟩ => apply Fin.ext; show 256 * k.val + 128 * (j.val / 128) + 1 * (j.val % 128) = 256 * k.val + j.val; omega
    | ⟨1, _⟩ => apply Fin.ext; show 128 * c.val + 1 * q.val = 128 * c.val + q.val; omega
  · intro c h e s
    unfold loadA
    rw [View.readAt_apply]
    refine Eq.trans (congrArg _ ?_) (h8 ⟨38 * h.val + 2 * c.val + e.val, by omega⟩ s ⟨256 * k.val + j.val, by omega⟩)
    funext a
    match a with
    | ⟨0, _⟩ => apply Fin.ext; show 38 * h.val + 2 * c.val + e.val + 1 * 0 = 38 * h.val + 2 * c.val + e.val; omega
    | ⟨1, _⟩ => apply Fin.ext; show 0 + 1 * s.val = s.val; omega
    | ⟨2, _⟩ => apply Fin.ext; show 256 * k.val + 128 * (j.val / 128) + 1 * (j.val % 128) = 256 * k.val + j.val; omega

include h2 h7 h8 in
/-- A written piece of the output holds the sums of its columns. -/
theorem tilePiece_eq (k : Fin 3) : ∀ y, (tilePiece arg2 arg7 arg8 tabLo tabHi oddSel X2 X7 X8 k).2 y
    = (fun z : S48x768.Idx => dot (x (z 0)) (w (z 1)) (fun b => am b (z 1))) ((tilePiece arg2 arg7 arg8 tabLo tabHi oddSel X2 X7 X8 k).1.emb y) := by
  intro y
  obtain ⟨m, j, rfl⟩ : ∃ (m : Fin 48) (j : Fin 256), y = ix2 m j := ⟨y 0, y 1, eq_ix2 y⟩
  refine (tileVal_row arg2 arg7 arg8 X2 X7 X8 x w am h2 h7 h8 k m j).trans ?_
  have e0 : (tilePiece arg2 arg7 arg8 tabLo tabHi oddSel X2 X7 X8 k).1.emb (ix2 m j) 0 = m :=
    Fin.ext (by show 0 + 1 * m.val = m.val; omega)
  have e1 : (tilePiece arg2 arg7 arg8 tabLo tabHi oddSel X2 X7 X8 k).1.emb (ix2 m j) 1 = (⟨256 * k.val + j.val, by omega⟩ : Fin 768) :=
    Fin.ext (by show 256 * k.val + 1 * j.val = 256 * k.val + j.val; omega)
  show _ = dot (x ((tilePiece arg2 arg7 arg8 tabLo tabHi oddSel X2 X7 X8 k).1.emb (ix2 m j) 0)) (w ((tilePiece arg2 arg7 arg8 tabLo tabHi oddSel X2 X7 X8 k).1.emb (ix2 m j) 1))
    (fun b => am b ((tilePiece arg2 arg7 arg8 tabLo tabHi oddSel X2 X7 X8 k).1.emb (ix2 m j) 1))
  rw [e0, e1]

include h2 h7 h8 in
/-- The three tiles, whatever the buffer held before. -/
theorem tiles_read (V : View sig .tc .vmem S48x768 .bf16) (f : BufTy.Contents (Elt Ideal) V.ty) (m : Fin 48) (n : Fin 768) :
    V.read (Elt Ideal) (V.writes (Elt Ideal) f [tilePiece arg2 arg7 arg8 tabLo tabHi oddSel X2 X7 X8 2,
      tilePiece arg2 arg7 arg8 tabLo tabHi oddSel X2 X7 X8 1, tilePiece arg2 arg7 arg8 tabLo tabHi oddSel X2 X7 X8 0]) (ix2 m n)
      = dot (x m) (w n) (fun b => am b n) := by
  refine View.read_writes_apply_of_pieces V f (fun z : S48x768.Idx => dot (x (z 0)) (w (z 1)) (fun b => am b (z 1))) _ ?_ (ix2 m n) ?_
  · intro p hp
    rcases List.mem_cons.1 hp with rfl | hp
    · exact tilePiece_eq arg2 arg7 arg8 X2 X7 X8 x w am h2 h7 h8 2
    rcases List.mem_cons.1 hp with rfl | hp
    · exact tilePiece_eq arg2 arg7 arg8 X2 X7 X8 x w am h2 h7 h8 1
    obtain rfl := List.mem_singleton.1 hp
    exact tilePiece_eq arg2 arg7 arg8 X2 X7 X8 x w am h2 h7 h8 0
  · have hm : ∀ k : Fin 3, k.val = n.val / 256 → (ix2 m n : S48x768.Idx) ∈ (tilePiece arg2 arg7 arg8 tabLo tabHi oddSel X2 X7 X8 k).1.set := by
      intro k hk
      unfold tilePiece
      rw [Rect.mem_set_unit]
      intro a
      match a with
      | ⟨0, _⟩ => show 0 ≤ m.val ∧ m.val < 0 + 48; omega
      | ⟨1, _⟩ => show 256 * k.val ≤ n.val ∧ n.val < 256 * k.val + 256; omega
    have hn : n.val / 256 = 0 ∨ n.val / 256 = 1 ∨ n.val / 256 = 2 := by omega
    rcases hn with h | h | h
    · exact ⟨_, List.mem_cons_of_mem _ (List.mem_cons_of_mem _ (List.mem_singleton.2 rfl)), hm 0 h.symm⟩
    · exact ⟨_, List.mem_cons_of_mem _ (List.mem_cons_self), hm 1 h.symm⟩
    · exact ⟨_, List.mem_cons_self, hm 2 h.symm⟩

end Tiles

section Run
variable (c : Dev nD) (i : grid0.Coords) (arg1 : Memref sig .tc .vmem S48x4864 .bf16) (harg1 : arg1.IsWhole) (arg2 : Memref sig .tc .vmem S768x2432 .i8) (harg2 : arg2.IsWhole) (arg3 : Memref sig .tc .vmem S76x768 .i8) (harg3 : arg3.IsWhole) (arg4 : Memref sig .tc .vmem S75x128 .f32) (harg4 : arg4.IsWhole) (arg5 : Memref sig .tc .smem S1 .f32) (harg5 : arg5.IsWhole) (arg6 : Memref sig .tc .vmem S48x768 .bf16) (harg6 : arg6.IsWhole) (arg7 : Memref sig .tc .vmem S19x48x256 .bf16) (harg7 : arg7.IsWhole) (arg8 : Memref sig .tc .vmem S76x2x768 .bf16) (harg8 : arg8.IsWhole) (arg9 : Memref sig .tc .vmem S75x128 .f32) (harg9 : arg9.IsWhole)
  (x0 : Vec Ideal S48x4864 .bf16) (x1 : Vec Ideal S768x2432 .i8) (x2 : Vec Ideal S76x768 .i8) (x3 : Vec Ideal S75x128 .f32) (x4 : Vec Ideal S1 .f32)
  (x : Fin 48 → Fin 4864 → EReal) (w : Fin 768 → Fin 2432 → BitVec 8) (code : Fin 76 → Fin 768 → BitVec 8) (scale : ℕ → EReal) (off : EReal)
  (e1 : ∀ n k, x1 (ix2 n k) = w n k) (e2 : ∀ b n, x2 (ix2 b n) = code b n) (e4 : x4 (ix1 0) = off)

include e1 e2 e4 in
/-- A later point's block: over the activations and the scales that the first point kept. -/
theorem blockB (hc0 : ¬cond0_0 i) (xs0 : Vec Ideal S19x48x256 .bf16) (xs2 : Vec Ideal S75x128 .f32)
    (s0 : ∀ q m D, xs0 (ix3 q m D) = actAt x q m D) (s2 : ∀ (r : Fin 75) (l : Fin 128), xs2 (ix2 r l) = scale (128 * r.val + l.val))
    (V : View sig .tc .vmem S48x768 .bf16) (f : BufTy.Contents (Elt Ideal) V.ty) (m : Fin 48) (n : Fin 768) :
    V.read (Elt Ideal) (V.writes (Elt Ideal) f (kernelRun0_B c i arg1 harg1 arg2 harg2 arg3 harg3 arg4 harg4 arg5 harg5 arg6 harg6 arg7 harg7 arg8 harg8 arg9 harg9 hc0 x0 x1 x2 x3 x4 xs0 xs2).1) (ix2 m n)
      = dot (x m) (w n) (fun b => scaleAt i code scale off b n) := by
  rw [runB_out, loop_pieces]
  refine tiles_read arg2 arg7 arg8 _ _ _ x w (scaleAt i code scale off) ?_ ?_ ?_ V f m n
  · intro n k; rw [harg2.read_unread]; exact e1 n k
  · intro q m D; rw [harg7.read_unread]; exact s0 q m D
  · intro b e n
    refine amPieces_read i arg3 arg5 arg9 _ _ _ code scale off ?_ ?_ ?_ arg8 _ b e n
    · intro b n; rw [harg3.read_unread]; exact e2 b n
    · rw [harg5.read_unread]; exact e4
    · intro r l; rw [harg9.read_unread]; exact s2 r l

include e1 e2 e4 in
/-- The first point's block. -/
theorem blockA (hc0 : cond0_0 i) (e0 : ∀ m k, x0 (ix2 m k) = x m k) (e3 : ∀ (r : Fin 75) (l : Fin 128), x3 (ix2 r l) = scale (128 * r.val + l.val))
    (V : View sig .tc .vmem S48x768 .bf16) (f : BufTy.Contents (Elt Ideal) V.ty) (m : Fin 48) (n : Fin 768) :
    V.read (Elt Ideal) (V.writes (Elt Ideal) f (kernelRun0_A c i arg1 harg1 arg2 harg2 arg3 harg3 arg4 harg4 arg5 harg5 arg6 harg6 arg7 harg7 arg8 harg8 arg9 harg9 hc0 x0 x1 x2 x3 x4).1) (ix2 m n)
      = dot (x m) (w n) (fun b => scaleAt i code scale off b n) := by
  rw [runA_out, loop_pieces]
  refine tiles_read arg2 arg7 arg8 _ _ _ x w (scaleAt i code scale off) ?_ ?_ ?_ V f m n
  · intro n k; rw [harg2.read_unread]; exact e1 n k
  · intro q m D
    exact xpPieces_read arg1 _ x (fun m k => by rw [harg1.read_unread]; exact e0 m k) arg7 _ q m D
  · intro b e n
    refine amPieces_read i arg3 arg5 arg9 _ _ _ code scale off ?_ ?_ ?_ arg8 _ b e n
    · intro b n; rw [harg3.read_unread]; exact e2 b n
    · rw [harg5.read_unread]; exact e4
    · intro r l; rw [scalePieces_read, harg4.read_unread]; exact e3 r l

/-- The activations that the first point keeps. -/
theorem actsA (hc0 : cond0_0 i) (e0 : ∀ m k, x0 (ix2 m k) = x m k)
    (S : Memref sig .tc .vmem S19x48x256 .bf16) (f : BufTy.Contents (Elt Ideal) S.view.ty) (q : Fin 19) (m : Fin 48) (D : Fin 256) :
    S.view.read (Elt Ideal) (S.view.writes (Elt Ideal) f (kernelRun0_A c i arg1 harg1 arg2 harg2 arg3 harg3 arg4 harg4 arg5 harg5 arg6 harg6 arg7 harg7 arg8 harg8 arg9 harg9 hc0 x0 x1 x2 x3 x4).2.1) (ix3 q m D)
      = actAt x q m D := by
  rw [runA_acts]
  exact xpPieces_read arg1 _ x (fun m k => by rw [harg1.read_unread]; exact e0 m k) S _ q m D

/-- The scales that the first point keeps. -/
theorem scalesA (hc0 : cond0_0 i) (e3 : ∀ (r : Fin 75) (l : Fin 128), x3 (ix2 r l) = scale (128 * r.val + l.val))
    (S : Memref sig .tc .vmem S75x128 .f32) (f : BufTy.Contents (Elt Ideal) S.view.ty) (r : Fin 75) (l : Fin 128) :
    S.view.read (Elt Ideal) (S.view.writes (Elt Ideal) f (kernelRun0_A c i arg1 harg1 arg2 harg2 arg3 harg3 arg4 harg4 arg5 harg5 arg6 harg6 arg7 harg7 arg8 harg8 arg9 harg9 hc0 x0 x1 x2 x3 x4).2.2.1) (ix2 r l)
      = scale (128 * r.val + l.val) := by
  rw [runA_scales, scalePieces_read, harg4.read_unread]
  exact e3 r l

end Run

end Cert.KernelIdeal.Hand
-- ==== Proof.KernelIdeal.Points.lean ====
/-
The array that the kernel leaves, from its arguments: the point blocks put together.
-/
module

public import proofs.«01_k».proof.Proof.KernelIdeal.Block
public import proofs.«01_k».proof.Proof.KernelIdeal.Frame
public import Idealize.ShloMosaic.Lib.Pipeline.ValueKit.Geometry
public import Idealize.ShloMosaic.Lib.StableHlo.RunRead
public import Idealize.ShloMosaic.Lib.KernelVsHost

@[expose] public section
noncomputable section

namespace Cert.KernelIdeal.Hand

open Idealize.ShloMosaic Idealize.ShloMosaic.TcCoe Idealize.ShloMosaic.ValueIdx Idealize.ShloMosaic.Pipeline
open Cert.KernelIdeal.Gen

variable (m : (ℓ : Loc nD τ sig) → Buf (Elt Ideal) ℓ) (c : Dev nD)

/-! ## The arguments -/

/-- The activations. -/
def argX (r : Fin 48) (k : Fin 4864) : EReal := m ((c : Thread nD τ).loc main_arg0) (ix3 r 0 k)
/-- The packed weights. -/
def argW (n : Fin 31488) (k : Fin 2432) : BitVec 8 := m ((c : Thread nD τ).loc main_arg1) (ix2 n k)
/-- The codes of the block scales. -/
def argC (n : Fin 31488) (b : Fin 76) : BitVec 8 := m ((c : Thread nD τ).loc main_arg2) (ix2 n b)
/-- The scale of a group of codes; past the last group the padding. -/
def argS (g : ℕ) : EReal :=
  if h : g < 9348 then m ((c : Thread nD τ).loc main_arg3) (ix1 ⟨g, h⟩) else (FloatOps.sitofp .f32 (0#32 : BitVec 32) : Ideal .f32)
/-- The offset of the block scales. -/
def argO : EReal := m ((c : Thread nD τ).loc main_arg4) ix0

/-- The result. -/
def result (r : Fin 48) (n : Fin 31488) : EReal :=
  dot (argX m c r) (argW m c n) (fun b => (FloatOps.sitofp .f32 (argC m c n b) : Ideal .f32) * argS m c ((n.val * 76 + b.val) / 256) + argO m c)

/-! ## The arrays that the pipeline finds -/

/-- The activations, reshaped. -/
theorem V_x (r : Fin 48) (k : Fin 4864) : V m c main_v0 (ix2 r k) = argX m c r k := by
  have e : V m c main_v0 = shapeCast S48x4864 (m ((c : Thread nD τ).loc main_arg0)) shapeCasts_S48x1x4864_S48x4864 := by
    show StableHlo.after (List.flatten [hostOps0, hostOps0_1, hostOps0_2]) (fun b => m (c, b)) _ = _
    after_reads_simp
    rfl
  rw [e]
  exact shapeCast_apply _ _ (ix2 r k) (ix3 r 0 k) (by rw [Shape.rowMajor_val_two, Shape.rowMajor_val_three]; show (r.val * 1 + 0) * 4864 + k.val = r.val * 4864 + k.val; omega)

/-- The codes, transposed. -/
theorem V_codes (b : Fin 76) (n : Fin 31488) : V m c main_v3 (ix2 b n) = argC m c n b := by
  have e : V m c main_v3 = transpose S76x31488 [1, 0] (m ((c : Thread nD τ).loc main_arg2)) transposes_S31488x76_S76x31488_1_0 := by
    show StableHlo.after (List.flatten [hostOps0, hostOps0_1, hostOps0_2]) (fun b => m (c, b)) _ = _
    after_reads_simp
  rw [e]
  exact transpose_ix2_apply _ _ b n

/-- The offset, as an array of one entry. -/
theorem V_off : V m c main_v4 (ix1 0) = argO m c := by
  have e : V m c main_v4 = shapeCast S1 (m ((c : Thread nD τ).loc main_arg4)) shapeCasts_S_S1 := by
    show StableHlo.after (List.flatten [hostOps0, hostOps0_1, hostOps0_2]) (fun b => m (c, b)) _ = _
    after_reads_simp
    rfl
  rw [e]
  exact shapeCast_apply _ _ (ix1 0) ix0 rfl

/-- The scales, padded and laid out in rows of 128. -/
theorem V_scale (r : Fin 75) (l : Fin 128) : V m c main_v2 (ix2 r l) = argS m c (128 * r.val + l.val) := by
  have e : V m c main_v2 = shapeCast S75x128 (pad S9600 ![0] ![252] ![0] (m ((c : Thread nD τ).loc main_arg3)) (sitofp (F := Ideal) .f32 (constantI S_ 32 0#32)) pads_S9348_S9600_02520 h_S_) shapeCasts_S9600_S75x128 := by
    show StableHlo.after (List.flatten [hostOps0, hostOps0_1, hostOps0_2]) (fun b => m (c, b)) _ = _
    after_reads_simp
    rfl
  rw [e]
  have hn : 128 * r.val + l.val < 9600 := by omega
  refine (shapeCast_apply _ _ (ix2 r l) (ix1 ⟨128 * r.val + l.val, hn⟩) (by
    rw [Shape.rowMajor_val_two, Shape.rowMajor_val_one]; show 128 * r.val + l.val = r.val * 128 + l.val; omega)).trans ?_
  unfold argS
  by_cases h : 128 * r.val + l.val < 9348
  · rw [dif_pos h]
    refine pad_apply_of_inside _ _ _ _ _ _ _ _ (ix1 ⟨128 * r.val + l.val, h⟩) fun a => ?_
    match a with
    | ⟨0, _⟩ => show 128 * r.val + l.val = 0 + (128 * r.val + l.val) * (0 + 1); omega
  · rw [dif_neg h]
    refine (pad_apply_of_not_inside _ _ _ _ _ _ _ _ (0 : Fin 1) fun hc => ?_).trans rfl
    have h3 : (128 * r.val + l.val - 0) / (0 + 1) < 9348 := hc.2.2
    omega

/-! ## The blocks of a point -/

/-- The block of the activations at a point. -/
theorem index0 : ∀ t : Fin cfg0.N, win0_0.index t = ![0, 0] := (by decide +kernel : ∀ t : Fin grid0.N, _)
/-- The block of the packed weights at a point. -/
theorem index1 : ∀ t : Fin cfg0.N, win0_1.index t = ![t.val, 0] := (by decide +kernel : ∀ t : Fin grid0.N, _)
/-- The block of the codes at a point. -/
theorem index2 : ∀ t : Fin cfg0.N, win0_2.index t = ![0, t.val] := (by decide +kernel : ∀ t : Fin grid0.N, _)
/-- The block of the scales at a point. -/
theorem index3 : ∀ t : Fin cfg0.N, win0_3.index t = ![0, 0] := (by decide +kernel : ∀ t : Fin grid0.N, _)
/-- The block of the offset at a point. -/
theorem index4 : ∀ t : Fin cfg0.N, win0_4.index t = ![0] := (by decide +kernel : ∀ t : Fin grid0.N, _)
/-- The block of the result at a point. -/
theorem index5 : ∀ t : Fin cfg0.N, win0_5.index t = ![0, t.val] := (by decide +kernel : ∀ t : Fin grid0.N, _)
/-- A point's only coordinate is its number. -/
theorem coord (t : Fin cfg0.N) : (grid0.coords t 0).val = t.val :=
  (by decide +kernel : ∀ t : Fin grid0.N, (grid0.coords t 0).val = t.val) t
/-- There are 41 points. -/
theorem lt41 (t : Fin cfg0.N) : t.val < 41 := lt_of_lt_of_eq t.isLt N_0

/-- Feature `n` of point `t`. -/
def feat (t : Fin cfg0.N) (n : Fin 768) : Fin 31488 := ⟨768 * t.val + n.val, by have := lt41 t; omega⟩

/-- The activations that a point reads. -/
theorem blk0 (t : Fin cfg0.N) (r : Fin 48) (k : Fin 4864) : (iblk m c 0 t : Vec Ideal S48x4864 .bf16) (ix2 r k) = argX m c r k := by
  refine Eq.trans ?_ (V_x m c r k)
  show V m c main_v0 _ = V m c main_v0 _
  refine congrArg _ ?_
  blk_ext [index0]

/-- The packed weights that a point reads. -/
theorem blk1 (t : Fin cfg0.N) (n : Fin 768) (k : Fin 2432) : (iblk m c 1 t : Vec Ideal S768x2432 .i8) (ix2 n k) = argW m c (feat t n) k := by
  refine Eq.trans ?_ (congrFun (V_main_arg1 m c) (ix2 (feat t n) k))
  show V m c main_arg1 _ = V m c main_arg1 _
  refine congrArg _ ?_
  blk_ext [index1, feat]
  show t.val * 768 + n.val = 768 * t.val + n.val
  omega

/-- The codes that a point reads. -/
theorem blk2 (t : Fin cfg0.N) (b : Fin 76) (n : Fin 768) : (iblk m c 2 t : Vec Ideal S76x768 .i8) (ix2 b n) = argC m c (feat t n) b := by
  refine Eq.trans ?_ (V_codes m c b (feat t n))
  show V m c main_v3 _ = V m c main_v3 _
  refine congrArg _ ?_
  blk_ext [index2, feat]
  show t.val * 768 + n.val = 768 * t.val + n.val
  omega

/-- The scales that a point reads. -/
theorem blk3 (t : Fin cfg0.N) (r : Fin 75) (l : Fin 128) : (iblk m c 3 t : Vec Ideal S75x128 .f32) (ix2 r l) = argS m c (128 * r.val + l.val) := by
  refine Eq.trans ?_ (V_scale m c r l)
  show V m c main_v2 _ = V m c main_v2 _
  refine congrArg _ ?_
  blk_ext [index3]

/-- The offset that a point reads. -/
theorem blk4 (t : Fin cfg0.N) : (iblk m c 4 t : Vec Ideal S1 .f32) (ix1 0) = argO m c := by
  refine Eq.trans ?_ (V_off m c)
  show V m c main_v4 _ = V m c main_v4 _
  refine congrArg _ ?_
  blk_ext [index4]

/-! ## What each point leaves -/

/-- The first point leaves the activations in their new order. -/
theorem first_acts (t : Fin cfg0.N) (h0 : t.val % 41 = 0) (q : Fin 19) (r : Fin 48) (D : Fin 256) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (ix3 q r D) = actAt (argX m c) q r D :=
  actsA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (argX m c) ((hcond0_0 t).mpr h0) (blk0 m c t) scM0_0 VS0_0.junk q r D

/-- The first point leaves the scales in the scratch. -/
theorem first_scales (t : Fin cfg0.N) (h0 : t.val % 41 = 0) (r : Fin 75) (l : Fin 128) :
    sout0_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (ix2 r l) = argS m c (128 * r.val + l.val) :=
  scalesA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (argS m c) ((hcond0_0 t).mpr h0) (blk3 m c t) scM0_2 VS0_2.junk r l

/-- After the first point the carried scratch holds the activations and the scales. -/
theorem carriedA (t : Fin cfg0.N) (h0 : t.val % 41 = 0) :
    (∀ (q : Fin 19) (r : Fin 48) (D : Fin 256), (outsAt0 m c t.val t.isLt).2.1 (ix3 q r D) = actAt (argX m c) q r D)
      ∧ (∀ (r : Fin 75) (l : Fin 128), (outsAt0 m c t.val t.isLt).2.2 (ix2 r l) = argS m c (128 * r.val + l.val)) := by
  have e := outsAt0_A m c t h0
  have e1 := congrArg (fun p => p.2.1) e
  have e2 := congrArg (fun p => p.2.2) e
  dsimp only at e1 e2
  constructor
  · intro q r D
    rw [e1]
    exact first_acts m c t h0 q r D
  · intro r l
    rw [e2]
    exact first_scales m c t h0 r l

/-- Every point leaves the permuted activations and the scales in the scratch that it carries. -/
theorem carried (n : ℕ) : ∀ hn : n < cfg0.N,
    (∀ (q : Fin 19) (r : Fin 48) (D : Fin 256), (outsAt0 m c n hn).2.1 (ix3 q r D) = actAt (argX m c) q r D)
      ∧ (∀ (r : Fin 75) (l : Fin 128), (outsAt0 m c n hn).2.2 (ix2 r l) = argS m c (128 * r.val + l.val)) := by
  induction n with
  | zero => exact fun hn => carriedA m c ⟨0, hn⟩ rfl
  | succ n ih =>
    intro hn
    have hl : n + 1 < 41 := lt41 ⟨n + 1, hn⟩
    have e : outsAt0 m c (n + 1) hn = _ := outsAt0_B m c ⟨n + 1, hn⟩ (by show ¬(n + 1) % 41 = 0; omega)
    rw [e]
    exact ih (Nat.lt_of_succ_lt hn)

/-- The scale of a block, from the point's coordinates and from the feature. -/
theorem scaleAt_feat (t : Fin cfg0.N) (b : Fin 76) (n : Fin 768) :
    scaleAt (grid0.coords t) (fun b n => argC m c (feat t n) b) (argS m c) (argO m c) b n
      = (FloatOps.sitofp .f32 (argC m c (feat t n) b) : Ideal .f32) * argS m c (((feat t n).val * 76 + b.val) / 256) + argO m c := by
  unfold scaleAt
  rw [coord]
  rfl

/-- The block of outputs that a point leaves. -/
theorem point_out (t : Fin cfg0.N) (r : Fin 48) (n : Fin 768) : (outsAt0 m c t.val t.isLt).1 (ix2 r n) = result m c r (feat t n) := by
  have h := lt41 t
  unfold result
  simp only [← scaleAt_feat m c t]
  by_cases h0 : t.val % 41 = 0
  · rw [outsAt0_A m c t h0]
    exact blockA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (argX m c) (fun n k => argW m c (feat t n) k) (fun b n => argC m c (feat t n) b) (argS m c) (argO m c)
      (blk1 m c t) (blk2 m c t) (blk4 m c t) _ (blk0 m c t) (blk3 m c t) VO0_5 _ r n
  · rw [outsAt0_B m c t h0]
    have hc := carried m c (t.val - 1) (Nat.lt_of_le_of_lt (Nat.sub_le _ _) t.isLt)
    exact blockB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (argX m c) (fun n k => argW m c (feat t n) k) (fun b n => argC m c (feat t n) b) (argS m c) (argO m c)
      (blk1 m c t) (blk2 m c t) (blk4 m c t) _ _ _ hc.1 hc.2 VO0_5 _ r n

/-- The array that the kernel leaves. -/
theorem final : (dats m 0 c).arrAt 5 cfg0.N = (fun z : S48x31488.Idx => result m c (z 0) (z 1)) := by
  refine (dats m 0 c).arrAt_eq_of_covers 5 _ (by decide +kernel) fun t hf y => ?_
  blk_simp
  rw [after0_5]
  obtain ⟨r, n, rfl⟩ : ∃ (r : Fin 48) (n : Fin 768), y = ix2 r n := ⟨y 0, y 1, eq_ix2 y⟩
  refine (point_out m c t r n).trans ?_
  refine congrArg₂ (result m c) (Fin.ext ?_) (Fin.ext ?_)
  · blk_simp [index5]
  · blk_simp [index5]
    show 768 * t.val + n.val = t.val * 768 + n.val
    omega

/-- The kernel's run: its result, and its arguments as they were. -/
theorem run (ρ : Dev nD → PrngReg) : θ_run defs (onTc (τ := τ) (main (F := Ideal))) ⟨m, fun _ => 0, ρ⟩ (fun r => ∀ c : Dev nD,
      (r.2.mem ((c.tc : Thread nD τ).loc main_v5) = fun z : S48x31488.Idx => result m c (z 0) (z 1))) :=
  (θ_run defs _ _).mono (fun _ h c => (h.out_eq c 5).trans (final m c)) (run_main m ρ)

end Cert.KernelIdeal.Hand
-- ==== Proof.Reference.lean ====
/-
The reference's result, read at an index: the same sums over the packed columns.
-/
module

public import proofs.«01_k».proof.Proof.KernelIdeal.Weights
public import proofs.«01_k».proof.Proof.Gen.ReferenceIdeal.Run
public import Idealize.ShloMosaic.Lib.MatmulPlain

@[expose] public section
noncomputable section

set_option maxRecDepth 8192

namespace Cert.ReferenceIdeal.Hand

open Idealize.ShloMosaic Idealize.ShloMosaic.TcCoe Idealize.ShloMosaic.ValueIdx
open Cert.ReferenceIdeal Cert.ReferenceIdeal.Gen Cert.ReferenceIdeal.Value
open Cert.KernelIdeal.Hand (nf4bits nib entry dot)

variable (V0 : Valuation τ sig (Elt Ideal))

/-- The block scales. -/
def scaleOf (n : Fin 31488) (b : Fin 76) : EReal :=
  (FloatOps.sitofp .f32 (V0 (Proc.devRef .tc main_arg2) (ix2 n b) : BitVec 8) : Ideal .f32)
      * V0 (Proc.devRef .tc main_arg3) (ix1 ⟨(n.val * 76 + b.val) / 256, by omega⟩)
    + V0 (Proc.devRef .tc main_arg4) ix0

/-- Widening a code before it becomes a float changes nothing. -/
theorem sitofp_extsi (b : BitVec 8) : (FloatOps.sitofp .f32 (b.signExtend 32) : Ideal .f32) = FloatOps.sitofp .f32 b := by
  show (((b.signExtend 32).toInt : ℝ) : EReal) = ((b.toInt : ℝ) : EReal)
  rw [BitVec.toInt_signExtend_of_le (by omega)]

/-- The block scales at a row and a block. -/
theorem scale_row (n : Fin 31488) (b : Fin 76) : res_main_v9 V0 (ix2 n b) = scaleOf V0 n b := by
  unfold res_main_v9
  have hg : (n.val * 76 + b.val) / 256 < 9348 := by omega
  have hr : (n.val * 76 + b.val) % 256 < 256 := by omega
  refine (shapeCast_apply
    (addf (mulf (sitofp .f32 (extsi 32 (shapeCast S9348x256 (V0 (Proc.devRef .tc main_arg2)) shapeCasts_S31488x76_S9348x256) natLt_8_32))
      (broadcastInDim S9348x256 ![0, 1] bcast_S9348x1_S9348x256_0_1 (broadcastInDim S9348x1 ![0] bcast_S9348_S9348x1_0 (V0 (Proc.devRef .tc main_arg3)))))
      (broadcastInDim S9348x256 ![] bcast_S_S9348x256 (V0 (Proc.devRef .tc main_arg4))) : FVec Ideal S9348x256 .f32) shapeCasts_S9348x256_S31488x76 (ix2 n b) (ix2 ⟨_, hg⟩ ⟨_, hr⟩) (by
    rw [Shape.rowMajor_val_two, Shape.rowMajor_val_two]
    show (n.val * 76 + b.val) / 256 * 256 + (n.val * 76 + b.val) % 256 = n.val * 76 + b.val
    omega)).trans ?_
  refine congrArg₂ (fun x y : EReal => x + y) (congrArg₂ (fun x y : EReal => x * y) ?_ ?_) ?_
  · refine (congrArg (fun z : BitVec 8 => (FloatOps.sitofp .f32 (z.signExtend 32) : Ideal .f32)) ?_).trans (sitofp_extsi _)
    exact shapeCast_apply _ shapeCasts_S31488x76_S9348x256 (ix2 ⟨_, hg⟩ ⟨_, hr⟩) (ix2 n b) (by
      rw [Shape.rowMajor_val_two, Shape.rowMajor_val_two]
      show n.val * 76 + b.val = (n.val * 76 + b.val) / 256 * 256 + (n.val * 76 + b.val) % 256
      omega)
  · refine (broadcastInDim_apply ![0, 1] bcast_S9348x1_S9348x256_0_1 _ _ (ix2 ⟨_, hg⟩ 0) ?_).trans ?_
    · intro a
      match a with
      | ⟨0, _⟩ => rfl
      | ⟨1, _⟩ => rfl
    · refine broadcastInDim_apply ![0] bcast_S9348_S9348x1_0 _ _ (ix1 ⟨_, hg⟩) ?_
      intro a
      match a with
      | ⟨0, _⟩ => rfl
  · exact broadcastInDim_apply ![] bcast_S_S9348x256 _ _ ix0 (fun a => a.elim0)

/-! ## The table -/

/-- The table of the low nibbles holds the sixteen words. -/
theorem lit0_eq : ∀ k : Fin 16, lit0 k = nf4bits k := by decide
/-- So does that of the high nibbles. -/
theorem lit1_eq : ∀ k : Fin 16, lit1 k = nf4bits k := by decide

/-- An entry of the table, on the whole array. -/
def leafOf (T : FVec Ideal S16 .bf16) (k : ℕ) (hs : S16.Slices ![k] S1) : FVec Ideal S31488x2432 .bf16 :=
  broadcastInDim S31488x2432 ![] bcast_S_S31488x2432 (shapeCast S_ (extractStridedSlice S1 ![k] T hs) shapeCasts_S1_S_)

/-- Everywhere it is that entry. -/
theorem leaf (T : FVec Ideal S16 .bf16) (k : ℕ) (hk : k < 16) (hs : S16.Slices ![k] S1) (i : S31488x2432.Idx) :
    leafOf T k hs i = T (ix1 ⟨k, hk⟩) := by
  refine (broadcastInDim_apply ![] bcast_S_S31488x2432 _ i ix0 (fun a => a.elim0)).trans ?_
  refine (shapeCast_apply _ shapeCasts_S1_S_ ix0 (ix1 0) rfl).trans ?_
  refine extractStridedSlice_apply ![k] T hs (ix1 0) (ix1 ⟨k, hk⟩) fun a => ?_
  match a with
  | ⟨0, _⟩ => rfl

/-- The low nibbles' table as numbers. -/
theorem cst_row (k : Fin 16) : res_main_cst V0 (ix1 k) = Ideal.ofBits .bf16 (nf4bits k) := by
  unfold res_main_cst
  have : S16.rowMajor (ix1 k) = k := Fin.ext (Shape.rowMajor_val_one _)
  show Ideal.ofBits .bf16 (lit0 (S16.rowMajor (ix1 k))) = _
  rw [this, lit0_eq]

/-- The high nibbles' table as numbers. -/
theorem cst0_row (k : Fin 16) : res_main_cst_0 V0 (ix1 k) = Ideal.ofBits .bf16 (nf4bits k) := by
  unfold res_main_cst_0
  have : S16.rowMajor (ix1 k) = k := Fin.ext (Shape.rowMajor_val_one _)
  show Ideal.ofBits .bf16 (lit1 (S16.rowMajor (ix1 k))) = _
  rw [this, lit1_eq]

/-- A choice by four bits, the highest first. -/
def choose (b3 b2 b1 b0 : BitVec 1) (e : Fin 16 → EReal) : EReal :=
  Scalar.select b3
    (Scalar.select b2 (Scalar.select b1 (Scalar.select b0 (e 15) (e 14)) (Scalar.select b0 (e 13) (e 12)))
      (Scalar.select b1 (Scalar.select b0 (e 11) (e 10)) (Scalar.select b0 (e 9) (e 8))))
    (Scalar.select b2 (Scalar.select b1 (Scalar.select b0 (e 7) (e 6)) (Scalar.select b0 (e 5) (e 4)))
      (Scalar.select b1 (Scalar.select b0 (e 3) (e 2)) (Scalar.select b0 (e 1) (e 0))))

/-- It takes the entry whose number the bits spell. -/
theorem choose_eq (e : Fin 16 → EReal) (k : Fin 16) :
    choose (BitVec.ofBool (k.val.testBit 3)) (BitVec.ofBool (k.val.testBit 2)) (BitVec.ofBool (k.val.testBit 1)) (BitVec.ofBool (k.val.testBit 0)) e = e k := by
  fin_cases k <;> rfl

/-- One bit of a nibble, as the reference takes it out of the widened byte. -/
def bitLo (b : BitVec 8) (k : BitVec 32) : BitVec 1 :=
  IntOp.cmpi .ne (IntOp.andi (IntOp.shrsi .host (IntOp.andi (b.setWidth 32) 15#32) k) 1#32) 0#32
/-- The same of the high nibble. -/
def bitHi (b : BitVec 8) (k : BitVec 32) : BitVec 1 :=
  IntOp.cmpi .ne (IntOp.andi (IntOp.shrsi .host (IntOp.shrsi .host (b.setWidth 32) 4#32) k) 1#32) 0#32

/-- It is the bit of the low nibble's number. -/
theorem bitLo_eq : ∀ (b : BitVec 8) (k : Fin 4), bitLo b (BitVec.ofNat 32 k.val) = BitVec.ofBool ((nib 0 b).val.testBit k.val) := by
  decide +kernel
/-- It is the bit of the high nibble's number. -/
theorem bitHi_eq : ∀ (b : BitVec 8) (k : Fin 4), bitHi b (BitVec.ofNat 32 k.val) = BitVec.ofBool ((nib 1 b).val.testBit k.val) := by
  decide +kernel

/-- The lookup on the whole array: a choice by four arrays of bits. -/
def tree (c3 c2 c1 c0 : IVec S31488x2432 1) (T : FVec Ideal S16 .bf16) : FVec Ideal S31488x2432 .bf16 :=
  select c3 (select c2 (select c1 (select c0 (leafOf T 15 slices_S16_S1_15) (leafOf T 14 slices_S16_S1_14))
      (select c0 (leafOf T 13 slices_S16_S1_13) (leafOf T 12 slices_S16_S1_12)))
      (select c1 (select c0 (leafOf T 11 slices_S16_S1_11) (leafOf T 10 slices_S16_S1_10))
      (select c0 (leafOf T 9 slices_S16_S1_9) (leafOf T 8 slices_S16_S1_8))))
      (select c2 (select c1 (select c0 (leafOf T 7 slices_S16_S1_7) (leafOf T 6 slices_S16_S1_6))
      (select c0 (leafOf T 5 slices_S16_S1_5) (leafOf T 4 slices_S16_S1_4)))
      (select c1 (select c0 (leafOf T 3 slices_S16_S1_3) (leafOf T 2 slices_S16_S1_2))
      (select c0 (leafOf T 1 slices_S16_S1_1) (leafOf T 0 slices_S16_S1_0))))

/-- At an index the lookup is the choice by the four bits there. -/
theorem tree_row (c3 c2 c1 c0 : IVec S31488x2432 1) (T : FVec Ideal S16 .bf16) (i : S31488x2432.Idx) :
    tree c3 c2 c1 c0 T i = choose (c3 i) (c2 i) (c1 i) (c0 i) (fun k => T (ix1 k)) := by
  unfold tree choose
  simp only [select_apply, leaf T 0 (by decide), leaf T 1 (by decide), leaf T 2 (by decide), leaf T 3 (by decide), leaf T 4 (by decide), leaf T 5 (by decide), leaf T 6 (by decide), leaf T 7 (by decide), leaf T 8 (by decide), leaf T 9 (by decide), leaf T 10 (by decide), leaf T 11 (by decide), leaf T 12 (by decide), leaf T 13 (by decide), leaf T 14 (by decide), leaf T 15 (by decide)]
  rfl

/-- The bits of every byte's low nibble, and of its high nibble. -/
def bitsLo (k : BitVec 32) : IVec S31488x2432 1 :=
  cmpi .ne (andi (Host.shrsi (res_main_v12 V0) (broadcastInDim S31488x2432 ![] bcast_S_S31488x2432 (constantI S_ 32 k)))
    (broadcastInDim S31488x2432 ![] bcast_S_S31488x2432 (constantI S_ 32 1#32))) (broadcastInDim S31488x2432 ![] bcast_S_S31488x2432 (constantI S_ 32 0#32))
/-- The bits of every byte's high nibble. -/
def bitsHi (k : BitVec 32) : IVec S31488x2432 1 :=
  cmpi .ne (andi (Host.shrsi (res_main_v95 V0) (broadcastInDim S31488x2432 ![] bcast_S_S31488x2432 (constantI S_ 32 k)))
    (broadcastInDim S31488x2432 ![] bcast_S_S31488x2432 (constantI S_ 32 1#32))) (broadcastInDim S31488x2432 ![] bcast_S_S31488x2432 (constantI S_ 32 0#32))

/-- The packed byte of a row and a column. -/
def byteOf (n : Fin 31488) (k : Fin 2432) : BitVec 8 := V0 (Proc.devRef .tc main_arg1) (ix2 n k)

/-- At an index: the bit of that byte's low nibble. -/
theorem bitsLo_row (k : BitVec 32) (n : Fin 31488) (j : Fin 2432) : bitsLo V0 k (ix2 n j) = bitLo (byteOf V0 n j) k := rfl
/-- At an index: the bit of that byte's high nibble. -/
theorem bitsHi_row (k : BitVec 32) (n : Fin 31488) (j : Fin 2432) : bitsHi V0 k (ix2 n j) = bitHi (byteOf V0 n j) k := rfl

/-- The table's entries of the low nibbles, and of the high nibbles. -/
def lookLo : FVec Ideal S31488x2432 .bf16 := tree (bitsLo V0 3#32) (bitsLo V0 2#32) (bitsLo V0 1#32) (bitsLo V0 0#32) (res_main_cst V0)
/-- The table's entries of the high nibbles. -/
def lookHi : FVec Ideal S31488x2432 .bf16 := tree (bitsHi V0 3#32) (bitsHi V0 2#32) (bitsHi V0 1#32) (bitsHi V0 0#32) (res_main_cst_0 V0)

/-- At an index: the entry of that byte's low nibble. -/
theorem lookLo_row (n : Fin 31488) (j : Fin 2432) : lookLo V0 (ix2 n j) = entry 0 (byteOf V0 n j) := by
  unfold lookLo
  rw [tree_row, bitsLo_row, bitsLo_row, bitsLo_row, bitsLo_row]
  rw [show bitLo (byteOf V0 n j) 3#32 = _ from bitLo_eq _ 3, show bitLo (byteOf V0 n j) 2#32 = _ from bitLo_eq _ 2,
    show bitLo (byteOf V0 n j) 1#32 = _ from bitLo_eq _ 1, show bitLo (byteOf V0 n j) 0#32 = _ from bitLo_eq _ 0]
  exact (choose_eq _ _).trans (cst_row V0 _)

/-- At an index: the entry of that byte's high nibble. -/
theorem lookHi_row (n : Fin 31488) (j : Fin 2432) : lookHi V0 (ix2 n j) = entry 1 (byteOf V0 n j) := by
  unfold lookHi
  rw [tree_row, bitsHi_row, bitsHi_row, bitsHi_row, bitsHi_row]
  rw [show bitHi (byteOf V0 n j) 3#32 = _ from bitHi_eq _ 3, show bitHi (byteOf V0 n j) 2#32 = _ from bitHi_eq _ 2,
    show bitHi (byteOf V0 n j) 1#32 = _ from bitHi_eq _ 1, show bitHi (byteOf V0 n j) 0#32 = _ from bitHi_eq _ 0]
  exact (choose_eq _ _).trans (cst0_row V0 _)

/-! ## The weights -/

/-- One half of the weights: the looked-up values, each block of 64 times its scale. -/
def weights (v : FVec Ideal S31488x2432 .bf16) (am : FVec Ideal S31488x76 .bf16) (off : ℕ) (hs : S31488x76.Slices ![0, off] S31488x38) :
    FVec Ideal S31488x2432 .bf16 :=
  shapeCast S31488x2432 (mulf (shapeCast S31488x38x64 v shapeCasts_S31488x2432_S31488x38x64)
    (broadcastInDim S31488x38x64 ![0, 1, 2] bcast_S31488x38x1_S31488x38x64_0_1_2
      (broadcastInDim S31488x38x1 ![0, 1] bcast_S31488x38_S31488x38x1_0_1 (extractStridedSlice S31488x38 ![0, off] am hs)))) shapeCasts_S31488x38x64_S31488x2432

/-- At an index: the value times the scale of its block. -/
theorem weights_row (v : FVec Ideal S31488x2432 .bf16) (am : FVec Ideal S31488x76 .bf16) (off : ℕ) (hs : S31488x76.Slices ![0, off] S31488x38)
    (n : Fin 31488) (k : Fin 2432) (b : Fin 76) (hb : b.val = off + k.val / 64) :
    weights v am off hs (ix2 n k) = (v (ix2 n k) * am (ix2 n b) : EReal) := by
  unfold weights
  have hq : k.val / 64 < 38 := by omega
  have hr : k.val % 64 < 64 := by omega
  refine (shapeCast_apply
    (mulf (shapeCast S31488x38x64 v shapeCasts_S31488x2432_S31488x38x64)
      (broadcastInDim S31488x38x64 ![0, 1, 2] bcast_S31488x38x1_S31488x38x64_0_1_2
        (broadcastInDim S31488x38x1 ![0, 1] bcast_S31488x38_S31488x38x1_0_1 (extractStridedSlice S31488x38 ![0, off] am hs))))
    shapeCasts_S31488x38x64_S31488x2432 (ix2 n k) (ix3 n ⟨_, hq⟩ ⟨_, hr⟩) (by
    rw [Shape.rowMajor_val_two, Shape.rowMajor_val_three]
    show (n.val * 38 + k.val / 64) * 64 + k.val % 64 = n.val * 2432 + k.val
    omega)).trans ?_
  refine congrArg₂ (fun x y : EReal => x * y) ?_ ?_
  · exact shapeCast_apply v shapeCasts_S31488x2432_S31488x38x64 (ix3 n ⟨_, hq⟩ ⟨_, hr⟩) (ix2 n k) (by
      rw [Shape.rowMajor_val_two, Shape.rowMajor_val_three]
      show n.val * 2432 + k.val = (n.val * 38 + k.val / 64) * 64 + k.val % 64
      omega)
  · refine (broadcastInDim_apply ![0, 1, 2] bcast_S31488x38x1_S31488x38x64_0_1_2 _ _ (ix3 n ⟨_, hq⟩ 0) ?_).trans ?_
    · intro a
      match a with
      | ⟨0, _⟩ => rfl
      | ⟨1, _⟩ => rfl
      | ⟨2, _⟩ => rfl
    · refine (broadcastInDim_apply ![0, 1] bcast_S31488x38_S31488x38x1_0_1 _ _ (ix2 n ⟨_, hq⟩) ?_).trans ?_
      · intro a
        match a with
        | ⟨0, _⟩ => rfl
        | ⟨1, _⟩ => rfl
      · refine extractStridedSlice_apply ![0, off] am hs (ix2 n ⟨_, hq⟩) (ix2 n b) fun a => ?_
        match a with
        | ⟨0, _⟩ => exact (Nat.zero_add _).symm
        | ⟨1, _⟩ => exact hb

/-! ## The products -/

/-- The activation of a row and an input column. -/
def actOf (r : Fin 48) (k : Fin 4864) : EReal := V0 (Proc.devRef .tc main_arg0) (ix3 r 0 k)

/-- A slice of the activations' columns at an index. -/
theorem slice_row (x : FVec Ideal S48x4864 .bf16) (off : ℕ) (hs : S48x4864.Slices ![0, off] S48x2432) (r : Fin 48) (k : Fin 2432) (q : Fin 4864)
    (hq : q.val = off + k.val) : extractStridedSlice S48x2432 ![0, off] x hs (ix2 r k) = x (ix2 r q) := by
  refine extractStridedSlice_apply ![0, off] x hs (ix2 r k) (ix2 r q) fun a => ?_
  match a with
  | ⟨0, _⟩ => exact (Nat.zero_add _).symm
  | ⟨1, _⟩ => exact hq

/-- A half of the activations at an index. -/
theorem acts_row (off : ℕ) (hs : S48x4864.Slices ![0, off] S48x2432) (r : Fin 48) (k : Fin 2432) (q : Fin 4864) (hq : q.val = off + k.val) :
    extractStridedSlice S48x2432 ![0, off] (res_main_v177 V0) hs (ix2 r k) = actOf V0 r q := by
  refine (slice_row (res_main_v177 V0) off hs r k q hq).trans ?_
  unfold res_main_v177 actOf
  exact shapeCast_apply (V0 (Proc.devRef .tc main_arg0) : FVec Ideal S48x1x4864 .bf16) shapeCasts_S48x1x4864_S48x4864 (ix2 r q) (ix3 r 0 q) (by
    rw [Shape.rowMajor_val_two]
    refine (Shape.rowMajor_val_three (ix3 r 0 q)).trans ?_
    show (r.val * 1 + 0) * 4864 + q.val = r.val * 4864 + q.val
    omega)

/-- A product over the packed columns. -/
theorem product_row (x : FVec Ideal S48x2432 .bf16) (w : FVec Ideal S31488x2432 .bf16) (r : Fin 48) (n : Fin 31488) :
    (Host.dotGeneral dot_S48x2432_S31488x2432_S48x31488_1_1_0_0_n_n none x w : FVec Ideal S48x31488 .f32) (ix2 r n) = ∑ k : Fin 2432, x (ix2 r k) * w (ix2 n k) := by
  have h := Ideal.matmul_transposedRhs_apply (M := 48) (K := 2432) (N := 31488) none x w (fun _ => (0 : EReal)) r n
  rw [Ideal.matmul_apply, zero_add, zero_add] at h
  simp only [Host.dotGeneral]
  rw [Ideal.dotGeneral_apply]
  exact h

/-- The reference's result is the two sums over the packed columns. -/
theorem out_row (r : Fin 48) (n : Fin 31488) :
    res_main_v182 V0 (ix2 r n) = dot (actOf V0 r) (byteOf V0 n) (scaleOf V0 n) := by
  have e : res_main_v182 V0 = addf
      (Host.dotGeneral (F := Ideal) dot_S48x2432_S31488x2432_S48x31488_1_1_0_0_n_n none
        (extractStridedSlice S48x2432 ![0, 0] (res_main_v177 V0) slices_S48x4864_S48x2432_0_0)
        (weights (lookLo V0) (res_main_v9 V0) 0 slices_S31488x76_S31488x38_0_0))
      (Host.dotGeneral (F := Ideal) dot_S48x2432_S31488x2432_S48x31488_1_1_0_0_n_n none
        (extractStridedSlice S48x2432 ![0, 2432] (res_main_v177 V0) slices_S48x4864_S48x2432_0_2432)
        (weights (lookHi V0) (res_main_v9 V0) 38 slices_S31488x76_S31488x38_0_38)) := rfl
  rw [e]
  unfold dot
  rw [Fin.sum_univ_two]
  refine congrArg₂ (fun x y : EReal => x + y) ?_ ?_
  · refine (product_row _ _ r n).trans (Finset.sum_congr rfl fun k _ => ?_)
    rw [acts_row V0 0 _ r k ⟨k.val, by omega⟩ (Nat.zero_add _).symm, weights_row _ _ 0 _ n k ⟨k.val / 64, by omega⟩ (Nat.zero_add _).symm, lookLo_row, scale_row]
    simp
  · refine (product_row _ _ r n).trans (Finset.sum_congr rfl fun k _ => ?_)
    rw [acts_row V0 2432 _ r k ⟨2432 + k.val, by omega⟩ rfl, weights_row _ _ 38 _ n k ⟨38 + k.val / 64, by omega⟩ rfl, lookHi_row, scale_row]
    rfl

end Cert.ReferenceIdeal.Hand
-- ==== Proof.Algebraic.lean ====
/-
On extended reals the kernel and the reference leave the same array: both hold, at row `r` and column `n`,
the sum over the two halves of the packed columns.
-/
module

public import proofs.«01_k».proof.Defs
public import proofs.«01_k».proof.Proof.KernelIdeal.Points
public import proofs.«01_k».proof.Proof.Reference

@[expose] public section

noncomputable section

namespace Cert.Proof

open Idealize.ShloMosaic Idealize.ShloMosaic.ValueIdx Idealize.ShloMosaic.StableHlo Idealize.SL.Sem
open Cert.KernelIdeal.Hand (result argX argW argC argS argO dot)
open Cert.ReferenceIdeal.Hand (actOf byteOf scaleOf out_row)

local instance kernelIdealFacts : Cert.KernelIdeal.Facts := Cert.KernelIdeal.Gen.facts
local instance referenceIdealFacts : Cert.ReferenceIdeal.Facts := Cert.ReferenceIdeal.Gen.facts

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs' arguments on a device are the same. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

/-- Then the reference's result is the kernel's. -/
theorem out_eq (c : Dev Cert.KernelIdeal.nD) (h : Agree m m' c) (r : Fin 48) (n : Fin 31488) :
    Cert.ReferenceIdeal.Value.res_main_v182 (launchContents m' c) (ix2 r n) = result m c r n := by
  obtain ⟨h0, h1, h2, h3, h4⟩ := h
  rw [out_row]
  unfold result
  have e0 : actOf (launchContents m' c) r = argX m c r := funext fun k => congrFun h0 (ix3 r 0 k)
  have e1 : byteOf (launchContents m' c) n = argW m c n := funext fun k => congrFun h1 (ix2 n k)
  have e2 : scaleOf (launchContents m' c) n
      = fun b => (FloatOps.sitofp .f32 (argC m c n b) : Ideal .f32) * argS m c ((n.val * 76 + b.val) / 256) + argO m c := by
    funext b
    have hg : (n.val * 76 + b.val) / 256 < 9348 := by omega
    refine congrArg₂ (fun x y : EReal => x + y) (congrArg₂ (fun x y : EReal => x * y) ?_ ?_) (congrFun h4 ix0)
    · exact congrArg (fun z : BitVec 8 => (FloatOps.sitofp .f32 z : Ideal .f32)) (congrFun h2 (ix2 n b))
    · unfold argS
      rw [dif_pos hg]
      exact congrFun h3 (ix1 ⟨_, hg⟩)
  rw [e0, e1, e2]

/-- The kernel and the reference leave the same array, and both leave their arguments alone. -/
theorem algebraic : Cert.algebraic_KernelIdeal_ReferenceIdeal (hKernelIdeal := Cert.KernelIdeal.Gen.facts)
    (hReferenceIdeal := Cert.ReferenceIdeal.Gen.facts) := by
  intro m g m' g' _ h
  refine ⟨fun c => fun z : Cert.KernelIdeal.S48x31488.Idx => result m c (z 0) (z 1), ?_, ?_⟩
  · exact (θ_run Cert.KernelIdeal.defs _ _).mono (fun r hr c => ⟨hr.1 c, hr.2 c⟩)
      (θ_run_and (Cert.KernelIdeal.Hand.run m g) (Cert.KernelIdeal.Hand.unchanged m g))
  · refine (θ_run Cert.ReferenceIdeal.defs _ _).mono (fun r hr c => ⟨(hr c).1.trans ?_, (hr c).2⟩)
      (Cert.ReferenceIdeal.Value.run (F := Ideal) m' g')
    funext z
    rw [eq_ix2 z]
    exact out_eq m m' c (h c) (z 0) (z 1)

end Cert.Proof

end
-- ==== Proof.lean ====
/-
The certificate's claims, each proved in the modules under `Proof/`.
-/
module

public import proofs.«01_k».proof.Defs
public import proofs.«01_k».proof.Proof.Claims
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts,
    frame_kernel, frame_kernelIdeal, frame_reference, preserves, algebraic⟩

end Cert.Proof

end
